-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v15_1)) (v3 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v15_1) = v2 c
          ∧ r.2.mem ((c.tc : Thread Cert.KernelIdeal.nD Cert.KernelIdeal.τ).loc Cert.KernelIdeal.main_v17) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x18432 : Shape := ⟨3, ![2, 4096, 18432]⟩
abbrev S2x4096x7168 : Shape := ⟨3, ![2, 4096, 7168]⟩
abbrev S2x4096x224 : Shape := ⟨3, ![2, 4096, 224]⟩
abbrev S3584x18432 : Shape := ⟨2, ![3584, 18432]⟩
abbrev S56x18432 : Shape := ⟨2, ![56, 18432]⟩
abbrev S7168x96 : Shape := ⟨2, ![7168, 96]⟩
abbrev S96x18432 : Shape := ⟨2, ![96, 18432]⟩
abbrev S18432 : Shape := ⟨1, ![18432]⟩
abbrev S8192x18432 : Shape := ⟨2, ![8192, 18432]⟩
abbrev S8192x7168 : Shape := ⟨2, ![8192, 7168]⟩
abbrev S8192x224 : Shape := ⟨2, ![8192, 224]⟩
abbrev S_ : Shape := ⟨0, ![]⟩
abbrev S8192x256 : Shape := ⟨2, ![8192, 256]⟩
abbrev S1x18432 : Shape := ⟨2, ![1, 18432]⟩
abbrev S7168x18432 : Shape := ⟨2, ![7168, 18432]⟩
abbrev S512x1024 : Shape := ⟨2, ![512, 1024]⟩
abbrev S8x1024 : Shape := ⟨2, ![8, 1024]⟩
abbrev S1024x96 : Shape := ⟨2, ![1024, 96]⟩
abbrev S96x1024 : Shape := ⟨2, ![96, 1024]⟩
abbrev S1024x1024 : Shape := ⟨2, ![1024, 1024]⟩
abbrev S512x1x1024 : Shape := ⟨3, ![512, 1, 1024]⟩
abbrev S512x2x1024 : Shape := ⟨3, ![512, 2, 1024]⟩
abbrev S8x128x1024 : Shape := ⟨3, ![8, 128, 1024]⟩
abbrev S8x1x1024 : Shape := ⟨3, ![8, 1, 1024]⟩
abbrev S8192x96 : Shape := ⟨2, ![8192, 96]⟩
abbrev S256x7168 : Shape := ⟨2, ![256, 7168]⟩
abbrev S256x256 : Shape := ⟨2, ![256, 256]⟩
abbrev S256x96 : Shape := ⟨2, ![256, 96]⟩
abbrev S256x128 : Shape := ⟨2, ![256, 128]⟩
abbrev S256x128x1 : Shape := ⟨3, ![256, 128, 1]⟩
abbrev S1024x2048 : Shape := ⟨2, ![1024, 2048]⟩
abbrev S1x2048 : Shape := ⟨2, ![1, 2048]⟩
abbrev S96x2048 : Shape := ⟨2, ![96, 2048]⟩
abbrev S1x1024 : Shape := ⟨2, ![1, 1024]⟩
abbrev S512x7168 : Shape := ⟨2, ![512, 7168]⟩
abbrev S7168x1024 : Shape := ⟨2, ![7168, 1024]⟩
abbrev S512x96 : Shape := ⟨2, ![512, 96]⟩
abbrev S64x8x1024 : Shape := ⟨3, ![64, 8, 1024]⟩
abbrev S1024 : Shape := ⟨1, ![1024]⟩

abbrev nBuf : Space → Nat
  | .hbm => 35
  | .vmem => 62
  | .smem => 0
  | _ => 0

abbrev bufTy : (tb : Table) → Fin (tcTables nBuf tb) → BufTy
  | .hbm, ⟨0, _⟩ => ⟨S2x4096x18432, .bf16⟩
  | .hbm, ⟨1, _⟩ => ⟨S2x4096x7168, .fp8e4m3⟩
  | .hbm, ⟨2, _⟩ => ⟨S2x4096x224, .f32⟩
  | .hbm, ⟨3, _⟩ => ⟨S3584x18432, .i8⟩
  | .hbm, ⟨4, _⟩ => ⟨S56x18432, .bf16⟩
  | .hbm, ⟨5, _⟩ => ⟨S7168x96, .bf16⟩
  | .hbm, ⟨6, _⟩ => ⟨S96x18432, .bf16⟩
  | .hbm, ⟨7, _⟩ => ⟨S18432, .f32⟩
  | .hbm, ⟨8, _⟩ => ⟨S18432, .f32⟩
  | .hbm, ⟨9, _⟩ => ⟨S8192x18432, .bf16⟩
  | .hbm, ⟨10, _⟩ => ⟨S8192x7168, .fp8e4m3⟩
  | .hbm, ⟨11, _⟩ => ⟨S8192x224, .f32⟩
  | .hbm, ⟨12, _⟩ => ⟨S_, .i32⟩
  | .hbm, ⟨13, _⟩ => ⟨S_, .f32⟩
  | .hbm, ⟨14, _⟩ => ⟨S8192x256, .f32⟩
  | .hbm, ⟨15, _⟩ => ⟨S_, .f32⟩
  | .hbm, ⟨16, _⟩ => ⟨S18432, .f32⟩
  | .hbm, ⟨17, _⟩ => ⟨S18432, .i1⟩
  | .hbm, ⟨18, _⟩ => ⟨S_, .f32⟩
  | .hbm, ⟨19, _⟩ => ⟨S_, .f32⟩
  | .hbm, ⟨20, _⟩ => ⟨S18432, .f32⟩
  | .hbm, ⟨21, _⟩ => ⟨S18432, .f32⟩
  | .hbm, ⟨22, _⟩ => ⟨S18432, .f32⟩
  | .hbm, ⟨23, _⟩ => ⟨S1x18432, .f32⟩
  | .hbm, ⟨24, _⟩ => ⟨S1x18432, .f32⟩
  | .hbm, ⟨25, _⟩ => ⟨S7168x18432, .bf16⟩
  | .hbm, ⟨26, _⟩ => ⟨S8192x7168, .bf16⟩
  | .hbm, ⟨27, _⟩ => ⟨S8192x96, .bf16⟩
  | .hbm, ⟨28, _⟩ => ⟨S8192x7168, .bf16⟩
  | .hbm, ⟨29, _⟩ => ⟨S8192x96, .bf16⟩
  | .hbm, ⟨30, _⟩ => ⟨S7168x96, .bf16⟩
  | .hbm, ⟨31, _⟩ => ⟨S1x18432, .f32⟩
  | .hbm, ⟨32, _⟩ => ⟨S96x18432, .bf16⟩
  | .hbm, ⟨33, _⟩ => ⟨S2x4096x7168, .bf16⟩
  | .hbm, ⟨34, _⟩ => ⟨S18432, .f32⟩
  | .local _ .vmem, ⟨0, _⟩ => ⟨S512x1024, .i8⟩
  | .local _ .vmem, ⟨1, _⟩ => ⟨S512x1024, .i8⟩
  | .local _ .vmem, ⟨2, _⟩ => ⟨S8x1024, .bf16⟩
  | .local _ .vmem, ⟨3, _⟩ => ⟨S8x1024, .bf16⟩
  | .local _ .vmem, ⟨4, _⟩ => ⟨S1024x96, .bf16⟩
  | .local _ .vmem, ⟨5, _⟩ => ⟨S1024x96, .bf16⟩
  | .local _ .vmem, ⟨6, _⟩ => ⟨S96x1024, .bf16⟩
  | .local _ .vmem, ⟨7, _⟩ => ⟨S96x1024, .bf16⟩
  | .local _ .vmem, ⟨8, _⟩ => ⟨S1024x1024, .bf16⟩
  | .local _ .vmem, ⟨9, _⟩ => ⟨S1024x1024, .bf16⟩
  | .local _ .vmem, ⟨10, _⟩ => ⟨S256x7168, .fp8e4m3⟩
  | .local _ .vmem, ⟨11, _⟩ => ⟨S256x7168, .fp8e4m3⟩
  | .local _ .vmem, ⟨12, _⟩ => ⟨S256x256, .f32⟩
  | .local _ .vmem, ⟨13, _⟩ => ⟨S256x256, .f32⟩
  | .local _ .vmem, ⟨14, _⟩ => ⟨S7168x96, .bf16⟩
  | .local _ .vmem, ⟨15, _⟩ => ⟨S256x7168, .bf16⟩
  | .local _ .vmem, ⟨16, _⟩ => ⟨S256x7168, .bf16⟩
  | .local _ .vmem, ⟨17, _⟩ => ⟨S256x96, .bf16⟩
  | .local _ .vmem, ⟨18, _⟩ => ⟨S256x96, .bf16⟩
  | .local _ .vmem, ⟨19, _⟩ => ⟨S1024x2048, .bf16⟩
  | .local _ .vmem, ⟨20, _⟩ => ⟨S1024x2048, .bf16⟩
  | .local _ .vmem, ⟨21, _⟩ => ⟨S1x2048, .f32⟩
  | .local _ .vmem, ⟨22, _⟩ => ⟨S1x2048, .f32⟩
  | .local _ .vmem, ⟨23, _⟩ => ⟨S1024x2048, .bf16⟩
  | .local _ .vmem, ⟨24, _⟩ => ⟨S1024x2048, .bf16⟩
  | .local _ .vmem, ⟨25, _⟩ => ⟨S1024x1024, .bf16⟩
  | .local _ .vmem, ⟨26, _⟩ => ⟨S1024x1024, .bf16⟩
  | .local _ .vmem, ⟨27, _⟩ => ⟨S1024x1024, .f32⟩
  | .local _ .vmem, ⟨28, _⟩ => ⟨S1024x2048, .bf16⟩
  | .local _ .vmem, ⟨29, _⟩ => ⟨S1024x2048, .bf16⟩
  | .local _ .vmem, ⟨30, _⟩ => ⟨S1x2048, .f32⟩
  | .local _ .vmem, ⟨31, _⟩ => ⟨S1x2048, .f32⟩
  | .local _ .vmem, ⟨32, _⟩ => ⟨S96x2048, .bf16⟩
  | .local _ .vmem, ⟨33, _⟩ => ⟨S96x2048, .bf16⟩
  | .local _ .vmem, ⟨34, _⟩ => ⟨S1024x96, .bf16⟩
  | .local _ .vmem, ⟨35, _⟩ => ⟨S1024x96, .bf16⟩
  | .local _ .vmem, ⟨36, _⟩ => ⟨S1024x96, .f32⟩
  | .local _ .vmem, ⟨37, _⟩ => ⟨S1024x1024, .bf16⟩
  | .local _ .vmem, ⟨38, _⟩ => ⟨S1024x1024, .bf16⟩
  | .local _ .vmem, ⟨39, _⟩ => ⟨S1024x96, .bf16⟩
  | .local _ .vmem, ⟨40, _⟩ => ⟨S1024x96, .bf16⟩
  | .local _ .vmem, ⟨41, _⟩ => ⟨S1024x96, .bf16⟩
  | .local _ .vmem, ⟨42, _⟩ => ⟨S1024x96, .bf16⟩
  | .local _ .vmem, ⟨43, _⟩ => ⟨S1024x96, .f32⟩
  | .local _ .vmem, ⟨44, _⟩ => ⟨S512x1024, .bf16⟩
  | .local _ .vmem, ⟨45, _⟩ => ⟨S512x1024, .bf16⟩
  | .local _ .vmem, ⟨46, _⟩ => ⟨S1x1024, .f32⟩
  | .local _ .vmem, ⟨47, _⟩ => ⟨S1x1024, .f32⟩
  | .local _ .vmem, ⟨48, _⟩ => ⟨S1x1024, .f32⟩
  | .local _ .vmem, ⟨49, _⟩ => ⟨S1x1024, .f32⟩
  | .local _ .vmem, ⟨50, _⟩ => ⟨S512x7168, .bf16⟩
  | .local _ .vmem, ⟨51, _⟩ => ⟨S512x7168, .bf16⟩
  | .local _ .vmem, ⟨52, _⟩ => ⟨S7168x1024, .bf16⟩
  | .local _ .vmem, ⟨53, _⟩ => ⟨S7168x1024, .bf16⟩
  | .local _ .vmem, ⟨54, _⟩ => ⟨S512x96, .bf16⟩
  | .local _ .vmem, ⟨55, _⟩ => ⟨S512x96, .bf16⟩
  | .local _ .vmem, ⟨56, _⟩ => ⟨S1x1024, .f32⟩
  | .local _ .vmem, ⟨57, _⟩ => ⟨S1x1024, .f32⟩
  | .local _ .vmem, ⟨58, _⟩ => ⟨S96x1024, .bf16⟩
  | .local _ .vmem, ⟨59, _⟩ => ⟨S96x1024, .bf16⟩
  | .local _ .vmem, ⟨60, _⟩ => ⟨S8x1024, .f32⟩
  | .local _ .vmem, ⟨61, _⟩ => ⟨S96x1024, .f32⟩
  | _, _ => ⟨S2x4096x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_call1_v0 : Ref sig .tc := ⟨.hbm, 19, rfl⟩
abbrev main_call1_v1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_v16 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_scratch0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_scratch0 : Ref sig .tc := ⟨.vmem, 36, rfl⟩
abbrev cc4_stg0_0 : Ref sig .tc := ⟨.vmem, 37, rfl⟩
abbrev cc4_stg0_1 : Ref sig .tc := ⟨.vmem, 38, rfl⟩
abbrev cc4_stg1_0 : Ref sig .tc := ⟨.vmem, 39, rfl⟩
abbrev cc4_stg1_1 : Ref sig .tc := ⟨.vmem, 40, rfl⟩
abbrev cc4_stg2_0 : Ref sig .tc := ⟨.vmem, 41, rfl⟩
abbrev cc4_stg2_1 : Ref sig .tc := ⟨.vmem, 42, rfl⟩
abbrev cc4_scratch0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg3_1 : Ref sig .tc := ⟨.vmem, 51, rfl⟩
abbrev cc5_stg4_0 : Ref sig .tc := ⟨.vmem, 52, rfl⟩
abbrev cc5_stg4_1 : Ref sig .tc := ⟨.vmem, 53, rfl⟩
abbrev cc5_stg5_0 : Ref sig .tc := ⟨.vmem, 54, rfl⟩
abbrev cc5_stg5_1 : Ref sig .tc := ⟨.vmem, 55, rfl⟩
abbrev cc5_stg6_0 : Ref sig .tc := ⟨.vmem, 56, rfl⟩
abbrev cc5_stg6_1 : Ref sig .tc := ⟨.vmem, 57, rfl⟩
abbrev cc5_stg7_0 : Ref sig .tc := ⟨.vmem, 58, rfl⟩
abbrev cc5_stg7_1 : Ref sig .tc := ⟨.vmem, 59, rfl⟩
abbrev cc5_scratch0 : Ref sig .tc := ⟨.vmem, 60, rfl⟩
abbrev cc5_scratch1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc1_sem4_0 : DmaSem sig := 17
abbrev cc1_sem4_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem3_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem2_1 : DmaSem sig := 46
abbrev cc5_sem3_0 : DmaSem sig := 47
abbrev cc5_sem3_1 : DmaSem sig := 48
abbrev cc5_sem4_0 : DmaSem sig := 49
abbrev cc5_sem4_1 : DmaSem sig := 50
abbrev cc5_sem5_0 : DmaSem sig := 51
abbrev cc5_sem5_1 : DmaSem sig := 52
abbrev cc5_sem6_0 : DmaSem sig := 53
abbrev cc5_sem6_1 : DmaSem sig := 54
abbrev cc5_sem7_0 : DmaSem sig := 55
abbrev cc5_sem7_1 : DmaSem sig := 56

abbrev nD : Nat := 1
abbrev τ : Topo := Topo.v7x

variable {F : FTy → Type} [FloatOps F]

abbrev grid0 : Pipeline.Grid := ⟨2, ![18, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S96x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x7168 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S7168x96 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x7168 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x96 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨3, ![8, 7, 9], ![false, false, false]⟩

def k2_cond2 (i : grid2.Coords) : BitVec 1 :=
  let arg2 : BitVec 32 := BitVec.ofNat 32 (i 2).val
  let c8_i32 : BitVec 32 := 8#32
  let v19 : BitVec 1 := Scalar.cmpi .eq arg2 c8_i32
  let v20 : BitVec 32 := Scalar.extui v19
  let c0_i32_10 : BitVec 32 := 0#32
  let v21 : BitVec 1 := Scalar.cmpi .ne v20 c0_i32_10
  v21

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨2, ![8, 9], ![false, false]⟩

def k3_cond2 (i : grid3.Coords) : BitVec 1 :=
  let arg1 : BitVec 32 := BitVec.ofNat 32 (i 1).val
  let c8_i32 : BitVec 32 := 8#32
  let v18 : BitVec 1 := Scalar.cmpi .eq arg1 c8_i32
  let v19 : BitVec 32 := Scalar.extui v18
  let c0_i32_10 : BitVec 32 := 0#32
  let v20 : BitVec 1 := Scalar.cmpi .ne v19 c0_i32_10
  v20

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S96x2048 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x96 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![7, 8], ![false, false]⟩

def k4_cond2 (i : grid4.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x96 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x96 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨2, ![18, 16], ![false, false]⟩

def k5_cond2 (i : grid5.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_20 : BitVec 32 := 0#32
  let v34 : BitVec 1 := Scalar.cmpi .ne v33 c0_i32_20
  v34

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S512x7168 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![false, true]

abbrev stage5_4 : Fin 2 → Memref sig .tc .vmem S7168x1024 .bf16 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, false]

abbrev stage5_5 : Fin 2 → Memref sig .tc .vmem S512x96 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![false, true]

abbrev stage5_6 : Fin 2 → Memref sig .tc .vmem S1x1024 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true, false]

abbrev stage5_7 : Fin 2 → Memref sig .tc .vmem S96x1024 .bf16 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, false]
-- ==== ReferenceIdeal.lean ====
abbrev S2x4096x18432 : Shape := ⟨3, ![2, 4096, 18432]⟩
abbrev S2x4096x7168 : Shape := ⟨3, ![2, 4096, 7168]⟩
abbrev S2x4096x224 : Shape := ⟨3, ![2, 4096, 224]⟩
abbrev S3584x18432 : Shape := ⟨2, ![3584, 18432]⟩
abbrev S56x18432 : Shape := ⟨2, ![56, 18432]⟩
abbrev S7168x96 : Shape := ⟨2, ![7168, 96]⟩
abbrev S96x18432 : Shape := ⟨2, ![96, 18432]⟩
abbrev S18432 : Shape := ⟨1, ![18432]⟩
abbrev S_ : Shape := ⟨0, ![]⟩
abbrev S56x64x18432 : Shape := ⟨3, ![56, 64, 18432]⟩
abbrev S56x1x18432 : Shape := ⟨3, ![56, 1, 18432]⟩
abbrev S3584x96 : Shape := ⟨2, ![3584, 96]⟩
abbrev S1x1x18432 : Shape := ⟨3, ![1, 1, 18432]⟩
abbrev S2x4096x3584 : Shape := ⟨3, ![2, 4096, 3584]⟩
abbrev S2x4096x3584x1 : Shape := ⟨4, ![2, 4096, 3584, 1]⟩
abbrev S2x4096x3584x2 : Shape := ⟨4, ![2, 4096, 3584, 2]⟩
abbrev S2x4096x224x32 : Shape := ⟨4, ![2, 4096, 224, 32]⟩
abbrev S2x4096x224x1 : Shape := ⟨4, ![2, 4096, 224, 1]⟩
abbrev S2x4096x96 : Shape := ⟨3, ![2, 4096, 96]⟩

abbrev nBuf : Space → Nat
  | .hbm => 109
  | .vmem => 2
  | .smem => 0
  | _ => 0

abbrev bufTy : (tb : Table) → Fin (tcTables nBuf tb) → BufTy
  | .hbm, ⟨0, _⟩ => ⟨S2x4096x18432, .bf16⟩
  | .hbm, ⟨1, _⟩ => ⟨S2x4096x7168, .fp8e4m3⟩
  | .hbm, ⟨2, _⟩ => ⟨S2x4096x224, .f32⟩
  | .hbm, ⟨3, _⟩ => ⟨S3584x18432, .i8⟩
  | .hbm, ⟨4, _⟩ => ⟨S56x18432, .bf16⟩
  | .hbm, ⟨5, _⟩ => ⟨S7168x96, .bf16⟩
  | .hbm, ⟨6, _⟩ => ⟨S96x18432, .bf16⟩
  | .hbm, ⟨7, _⟩ => ⟨S18432, .f32⟩
  | .hbm, ⟨8, _⟩ => ⟨S18432, .f32⟩
  | .hbm, ⟨9, _⟩ => ⟨S2x4096x7168, .bf16⟩
  | .hbm, ⟨10, _⟩ => ⟨S3584x18432, .i32⟩
  | .hbm, ⟨11, _⟩ => ⟨S_, .i32⟩
  | .hbm, ⟨12, _⟩ => ⟨S3584x18432, .i32⟩
  | .hbm, ⟨13, _⟩ => ⟨S3584x18432, .i32⟩
  | .hbm, ⟨14, _⟩ => ⟨S_, .i32⟩
  | .hbm, ⟨15, _⟩ => ⟨S3584x18432, .i32⟩
  | .hbm, ⟨16, _⟩ => ⟨S3584x18432, .i32⟩
  | .hbm, ⟨17, _⟩ => ⟨S_, .i32⟩
  | .hbm, ⟨18, _⟩ => ⟨S3584x18432, .i32⟩
  | .hbm, ⟨19, _⟩ => ⟨S3584x18432, .i32⟩
  | .hbm, ⟨20, _⟩ => ⟨S_, .i32⟩
  | .hbm, ⟨21, _⟩ => ⟨S3584x18432, .i32⟩
  | .hbm, ⟨22, _⟩ => ⟨S3584x18432, .i32⟩
  | .hbm, ⟨23, _⟩ => ⟨S_, .i32⟩
  | .hbm, ⟨24, _⟩ => ⟨S3584x18432, .i32⟩
  | .hbm, ⟨25, _⟩ => ⟨S3584x18432, .i32⟩
  | .hbm, ⟨26, _⟩ => ⟨S_, .i32⟩
  | .hbm, ⟨27, _⟩ => ⟨S3584x18432, .i32⟩
  | .hbm, ⟨28, _⟩ => ⟨S3584x18432, .i32⟩
  | .hbm, ⟨29, _⟩ => ⟨S_, .i32⟩
  | .hbm, ⟨30, _⟩ => ⟨S3584x18432, .i32⟩
  | .hbm, ⟨31, _⟩ => ⟨S3584x18432, .i32⟩
  | .hbm, ⟨32, _⟩ => ⟨S3584x18432, .bf16⟩
  | .hbm, ⟨33, _⟩ => ⟨S56x64x18432, .bf16⟩
  | .hbm, ⟨34, _⟩ => ⟨S56x1x18432, .bf16⟩
  | .hbm, ⟨35, _⟩ => ⟨S56x64x18432, .bf16⟩
  | .hbm, ⟨36, _⟩ => ⟨S56x64x18432, .bf16⟩
  | .hbm, ⟨37, _⟩ => ⟨S3584x18432, .bf16⟩
  | .hbm, ⟨38, _⟩ => ⟨S3584x18432, .bf16⟩
  | .hbm, ⟨39, _⟩ => ⟨S56x64x18432, .bf16⟩
  | .hbm, ⟨40, _⟩ => ⟨S56x1x18432, .bf16⟩
  | .hbm, ⟨41, _⟩ => ⟨S56x64x18432, .bf16⟩
  | .hbm, ⟨42, _⟩ => ⟨S56x64x18432, .bf16⟩
  | .hbm, ⟨43, _⟩ => ⟨S3584x18432, .bf16⟩
  | .hbm, ⟨44, _⟩ => ⟨S3584x96, .bf16⟩
  | .hbm, ⟨45, _⟩ => ⟨S3584x18432, .f32⟩
  | .hbm, ⟨46, _⟩ => ⟨S3584x96, .bf16⟩
  | .hbm, ⟨47, _⟩ => ⟨S3584x18432, .f32⟩
  | .hbm, ⟨48, _⟩ => ⟨S3584x18432, .f32⟩
  | .hbm, ⟨49, _⟩ => ⟨S_, .f32⟩
  | .hbm, ⟨50, _⟩ => ⟨S3584x18432, .f32⟩
  | .hbm, ⟨51, _⟩ => ⟨S3584x18432, .f32⟩
  | .hbm, ⟨52, _⟩ => ⟨S3584x18432, .f32⟩
  | .hbm, ⟨53, _⟩ => ⟨S3584x18432, .bf16⟩
  | .hbm, ⟨54, _⟩ => ⟨S3584x18432, .f32⟩
  | .hbm, ⟨55, _⟩ => ⟨S_, .f32⟩
  | .hbm, ⟨56, _⟩ => ⟨S3584x18432, .f32⟩
  | .hbm, ⟨57, _⟩ => ⟨S3584x18432, .f32⟩
  | .hbm, ⟨58, _⟩ => ⟨S3584x18432, .f32⟩
  | .hbm, ⟨59, _⟩ => ⟨S3584x18432, .bf16⟩
  | .hbm, ⟨60, _⟩ => ⟨S_, .f32⟩
  | .hbm, ⟨61, _⟩ => ⟨S18432, .f32⟩
  | .hbm, ⟨62, _⟩ => ⟨S18432, .i1⟩
  | .hbm, ⟨63, _⟩ => ⟨S_, .f32⟩
  | .hbm, ⟨64, _⟩ => ⟨S_, .f32⟩
  | .hbm, ⟨65, _⟩ => ⟨S18432, .f32⟩
  | .hbm, ⟨66, _⟩ => ⟨S18432, .f32⟩
  | .hbm, ⟨67, _⟩ => ⟨S18432, .f32⟩
  | .hbm, ⟨68, _⟩ => ⟨S2x4096x18432, .f32⟩
  | .hbm, ⟨69, _⟩ => ⟨S1x1x18432, .f32⟩
  | .hbm, ⟨70, _⟩ => ⟨S2x4096x18432, .f32⟩
  | .hbm, ⟨71, _⟩ => ⟨S2x4096x18432, .f32⟩
  | .hbm, ⟨72, _⟩ => ⟨S2x4096x18432, .bf16⟩
  | .hbm, ⟨73, _⟩ => ⟨S2x4096x3584, .f32⟩
  | .hbm, ⟨74, _⟩ => ⟨S2x4096x3584, .f32⟩
  | .hbm, ⟨75, _⟩ => ⟨S2x4096x3584x1, .f32⟩
  | .hbm, ⟨76, _⟩ => ⟨S2x4096x3584x1, .f32⟩
  | .hbm, ⟨77, _⟩ => ⟨S2x4096x3584x2, .f32⟩
  | .hbm, ⟨78, _⟩ => ⟨S2x4096x7168, .f32⟩
  | .hbm, ⟨79, _⟩ => ⟨S2x4096x7168, .bf16⟩
  | .hbm, ⟨80, _⟩ => ⟨S2x4096x224x32, .bf16⟩
  | .hbm, ⟨81, _⟩ => ⟨S2x4096x224, .bf16⟩
  | .hbm, ⟨82, _⟩ => ⟨S2x4096x224x1, .bf16⟩
  | .hbm, ⟨83, _⟩ => ⟨S2x4096x224x32, .bf16⟩
  | .hbm, ⟨84, _⟩ => ⟨S2x4096x224x32, .bf16⟩
  | .hbm, ⟨85, _⟩ => ⟨S2x4096x7168, .bf16⟩
  | .hbm, ⟨86, _⟩ => ⟨S2x4096x3584, .bf16⟩
  | .hbm, ⟨87, _⟩ => ⟨S2x4096x18432, .f32⟩
  | .hbm, ⟨88, _⟩ => ⟨S2x4096x3584, .bf16⟩
  | .hbm, ⟨89, _⟩ => ⟨S2x4096x18432, .f32⟩
  | .hbm, ⟨90, _⟩ => ⟨S2x4096x18432, .f32⟩
  | .hbm, ⟨91, _⟩ => ⟨S2x4096x18432, .f32⟩
  | .hbm, ⟨92, _⟩ => ⟨S_, .f32⟩
  | .hbm, ⟨93, _⟩ => ⟨S18432, .f32⟩
  | .hbm, ⟨94, _⟩ => ⟨S18432, .f32⟩
  | .hbm, ⟨95, _⟩ => ⟨S2x4096x96, .f32⟩
  | .hbm, ⟨96, _⟩ => ⟨S2x4096x96, .bf16⟩
  | .hbm, ⟨97, _⟩ => ⟨S7168x96, .f32⟩
  | .hbm, ⟨98, _⟩ => ⟨S_, .f32⟩
  | .hbm, ⟨99, _⟩ => ⟨S7168x96, .f32⟩
  | .hbm, ⟨100, _⟩ => ⟨S7168x96, .f32⟩
  | .hbm, ⟨101, _⟩ => ⟨S7168x96, .bf16⟩
  | .hbm, ⟨102, _⟩ => ⟨S2x4096x96, .f32⟩
  | .hbm, ⟨103, _⟩ => ⟨S2x4096x96, .bf16⟩
  | .hbm, ⟨104, _⟩ => ⟨S96x18432, .f32⟩
  | .hbm, ⟨105, _⟩ => ⟨S_, .f32⟩
  | .hbm, ⟨106, _⟩ => ⟨S96x18432, .f32⟩
  | .hbm, ⟨107, _⟩ => ⟨S96x18432, .f32⟩
  | .hbm, ⟨108, _⟩ => ⟨S96x18432, .bf16⟩
  | .local _ .vmem, ⟨0, _⟩ => ⟨S2x4096x7168, .fp8e4m3⟩
  | .local _ .vmem, ⟨1, _⟩ => ⟨S2x4096x7168, .bf16⟩
  | _, _ => ⟨S2x4096x18432, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_call0_v0 : Ref sig .tc := ⟨.hbm, 64, rfl⟩
abbrev main_call0_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_9 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_10 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_11 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S2x4096x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4096x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.R0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

/-!
# The region of `v_body`

Each point computes one block of `v = w * s + 0.5 * (A B)`.
-/

@[expose] public section

set_option maxRecDepth 16384

noncomputable section

namespace Cert.KernelIdeal.R0

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Equal arguments give equal values. -/
theorem cong4 {T0 T1 T2 T3 R : Type} (f : T0 → T1 → T2 → T3 → R) {a0 b0 a1 b1 a2 b2 a3 b3} (h0 : a0 = b0) (h1 : a1 = b1) (h2 : a2 = b2) (h3 : a3 = b3) :
    f a0 a1 a2 a3 = f b0 b1 b2 b3 := by
  subst h0 h1 h2 h3; rfl

set_option maxHeartbeats 4000000 in
/-- The body at any point, run: the inputs stay and the outputs are stored. -/
theorem run (c : Dev nD) (i : grid0.Coords) (arg2 : Memref sig .tc .vmem S512x1024 .i8) (harg2 : arg2.IsWhole) (arg3 : Memref sig .tc .vmem S8x1024 .bf16) (harg3 : arg3.IsWhole) (arg4 : Memref sig .tc .vmem S1024x96 .bf16) (harg4 : arg4.IsWhole) (arg5 : Memref sig .tc .vmem S96x1024 .bf16) (harg5 : arg5.IsWhole) (arg6 : Memref sig .tc .vmem S1024x1024 .bf16) (harg6 : arg6.IsWhole)
    (x0 : Vec F S512x1024 .i8) (x1 : Vec F S8x1024 .bf16) (x2 : Vec F S1024x96 .bf16) (x3 : Vec F S96x1024 .bf16) (o0 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare o0
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (k0_pay1 x0 x1 x2 x3)) -∗ K ⟨⟩))
    ⊢ wp frame (wpE (defs₀ (F := F)) Variants.none c none) E (cc0__v_body i arg2 harg2 arg3 harg3 arg4 harg4 arg5 harg5 arg6 harg6) K := by
  simp only [cc0__v_body_eq_skeleton]; unfold cc0__v_body_skel
  unfold owns
  iintro ⟨⟨%f0, %hf0, H0⟩, ⟨%f1, %hf1, H1⟩, ⟨%f2, %hf2, H2⟩, ⟨%f3, %hf3, H3⟩, ⟨%g0, %hg0, O0⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr; swap; · iexact O0
  ipureintro
  exact (View.read_writes_full _ _ _ _ _).trans (cong4 _ ((View.readAt_full _ _ _).trans hf0) ((View.readAt_full _ _ _).trans hf1) ((View.readAt_full _ _ _).trans hf2) ((View.readAt_full _ _ _).trans hf3))

/-! ## The region's proof data -/

variable (W : Dev nD → Valuation τ sig (Elt F))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The region's proof data: the arrays as found; after a point each input's buffer at its block, each output's at its value of those. -/
def dat (c : Dev nD) : Dat τ (Elt F) Unit ℕ (UR sig nD τ) ℕ cfg0 c where
  A w := W c (Proc.devRef .tc (Pipeline.arrRef spec0 w))
  after w t := match w with
    | ⟨0, _⟩ => iblk W c 0 t
    | ⟨1, _⟩ => iblk W c 1 t
    | ⟨2, _⟩ => iblk W c 2 t
    | ⟨3, _⟩ => iblk W c 3 t
    | ⟨4, _⟩ => k0_pay1 (iblk W c 0 t) (iblk W c 1 t) (iblk W c 2 t) (iblk W c 3 t)
  Φ t := iprop(Pipeline.scopedRest spec0 c ∗ (∃ r, prngReg c r))
  q _ := fullShare
  owed _ := 0

theorem A_eq (c : Dev nD) (w : Fin cfg0.W) : (dat W c).A w = W c (Proc.devRef .tc (Pipeline.arrRef spec0 w)) := by dsimp only [dat]
theorem after_0 (c : Dev nD) (t : Fin cfg0.N) : (dat W c).after 0 t = iblk W c 0 t := by dsimp only [dat]
theorem after_1 (c : Dev nD) (t : Fin cfg0.N) : (dat W c).after 1 t = iblk W c 1 t := by dsimp only [dat]
theorem after_2 (c : Dev nD) (t : Fin cfg0.N) : (dat W c).after 2 t = iblk W c 2 t := by dsimp only [dat]
theorem after_3 (c : Dev nD) (t : Fin cfg0.N) : (dat W c).after 3 t = iblk W c 3 t := by dsimp only [dat]
theorem after_4 (c : Dev nD) (t : Fin cfg0.N) : (dat W c).after 4 t = k0_pay1 (iblk W c 0 t) (iblk W c 1 t) (iblk W c 2 t) (iblk W c 3 t) := by dsimp only [dat]
theorem before_0 (c : Dev nD) (t : Fin cfg0.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem leaves_0 (c : Dev nD) (t : Fin cfg0.N) : (dat W c).leavesExact 0 t = owns (c : Thread nD τ) (st0_0 t) fullShare (iblk W c 0 t) := by
  unfold Dat.leavesExact; rw [show cfg0.idle 0 (grid0.coords t) = false from rfl, after_0]
theorem leaves_1 (c : Dev nD) (t : Fin cfg0.N) : (dat W c).leavesExact 1 t = owns (c : Thread nD τ) (st0_1 t) fullShare (iblk W c 1 t) := by
  unfold Dat.leavesExact; rw [show cfg0.idle 1 (grid0.coords t) = false from rfl, after_1]
theorem leaves_2 (c : Dev nD) (t : Fin cfg0.N) : (dat W c).leavesExact 2 t = owns (c : Thread nD τ) (st0_2 t) fullShare (iblk W c 2 t) := by
  unfold Dat.leavesExact; rw [show cfg0.idle 2 (grid0.coords t) = false from rfl, after_2]
theorem leaves_3 (c : Dev nD) (t : Fin cfg0.N) : (dat W c).leavesExact 3 t = owns (c : Thread nD τ) (st0_3 t) fullShare (iblk W c 3 t) := by
  unfold Dat.leavesExact; rw [show cfg0.idle 3 (grid0.coords t) = false from rfl, after_3]
theorem leaves_4 (c : Dev nD) (t : Fin cfg0.N) : (dat W c).leavesExact 4 t = owns (c : Thread nD τ) (st0_4 t) fullShare (k0_pay1 (iblk W c 0 t) (iblk W c 1 t) (iblk W c 2 t) (iblk W c 3 t)) := by
  unfold Dat.leavesExact; rw [show cfg0.idle 4 (grid0.coords t) = false from rfl, after_4]

/-- The body at any point takes the invariant and the buffers from one point to the next. -/
theorem sound (c : Dev nD) (t : Fin cfg0.N) :
    iprop((dat W c).Φ t.castSucc ∗ (dat W c).owesAt () t.castSucc
      ∗ (∃ d, owns (c : Thread nD τ) (st0_0 t) fullShare ((dat W c).before 0 t d)) ∗ (∃ d, owns (c : Thread nD τ) (st0_1 t) fullShare ((dat W c).before 1 t d)) ∗ (∃ d, owns (c : Thread nD τ) (st0_2 t) fullShare ((dat W c).before 2 t d)) ∗ (∃ d, owns (c : Thread nD τ) (st0_3 t) fullShare ((dat W c).before 3 t d)) ∗ (∃ d, owns (c : Thread nD τ) (st0_4 t) fullShare ((dat W c).before 4 t d)))
    ⊢ wp frame (wpE (defs₀ (F := F)) Variants.none c none) Set.univ (bodyAt0 t)
      (fun _ => iprop((dat W c).Φ t.succ ∗ (dat W c).owesAt () t.succ
        ∗ (dat W c).leavesExact 0 t ∗ (dat W c).leavesExact 1 t ∗ (dat W c).leavesExact 2 t ∗ (dat W c).leavesExact 3 t ∗ (dat W c).leavesExact 4 t)) := by
  unfold bodyAt0
  simp only [before_0, before_1, before_2, before_3]
  rw [show (dat W c).owesAt () t.succ = (dat W c).owesAt () t.castSucc from rfl, show (dat W c).Φ t.succ = (dat W c).Φ t.castSucc from rfl, leaves_0, leaves_1, leaves_2, leaves_3, leaves_4]
  iintro ⟨HΦ, Ho, ⟨%d0, H0⟩, ⟨%d1, H1⟩, ⟨%d2, H2⟩, ⟨%d3, H3⟩, ⟨%d4, H4⟩⟩
  iapply (run c (grid0.coords t) _ _ _ _ _ _ _ _ _ _ (iblk W c 0 t) (iblk W c 1 t) (iblk W c 2 t) (iblk W c 3 t) _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body (c : Dev nD) : BodyObligation (dat W c) (defs₀ (F := F)) Variants.none () Set.univ := fun t => by
  rw [bigSep_W0, bigSep_W0, show defs₀ (F := F) .tc cfg0.body (cfg0.bodyArgs t (cfg0.slots t)) = bodyAt0 t from by unfold defs₀; rw [Defs.onTc_tc]]
  exact triple_restated (sound W c t) rfl .rfl fun _ => .rfl

theorem hin (c : Dev nD) : iprop(Pipeline.scopedRest spec0 c ∗ (∃ r, prngReg c r)) ⊢ (dat W c).Φ 0 := .rfl

theorem hout (c : Dev nD) : (dat W c).Φ (Fin.last cfg0.N) ⊢ iprop(Pipeline.scopedRest spec0 c ∗ (∃ r, prngReg c r)) := .rfl

end Cert.KernelIdeal.R0

end
-- ==== Proof.T1.lean ====
module

public import proofs.«01_k».proof.Proof.Gen.KernelIdeal.Launch
public import proofs.«01_k».proof.Proof.Gen.KernelIdeal.Skeleton
public import Idealize.ShloMosaic.Lib.Ring
public import Idealize.ShloMosaic.Lib.WordCmp
public import Idealize.ShloMosaic.Lib.VecWindow
public import Idealize.ShloMosaic.Lib.Pipeline.ValueKit

/-!
# What `_xh_body` computes

Each of its 56 stores writes 128 columns of one array, `xhv`: an element times the scale of its group of 32 columns. This module says so for one
store at any column block, and puts the stores together.
-/

@[expose] public section

set_option maxRecDepth 16384

noncomputable section

namespace Cert.KernelIdeal.T1

open Cert.KernelIdeal.Gen
open Idealize.ShloMosaic Idealize.ShloMosaic.Tactic

variable {F : FTy → Type} [FloatOps F]

/-- The lane's group of 32, as the words compute it. -/
theorem lane (x : S256x128.Idx) : k1_pay5 x = BitVec.ofNat 32 ((x 1).val / 32) := by
  have h : ∀ n : Fin 128, Scalar.select
      (IntOp.andi
        (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 n.val) 32#32) 0#32))
      (IntOp.subi (IntOp.divsi ArithUnit.vector (BitVec.ofNat 32 n.val) 32#32) 1#32)
      (IntOp.divsi ArithUnit.vector (BitVec.ofNat 32 n.val) 32#32) = BitVec.ofNat 32 (n.val / 32) := by decide +kernel
  unfold k1_pay5
  pointwise
  exact h (x 1)

/-- The gathered lane: the group plus the block's offset. -/
theorem gathered (k : BitVec 32) (hk : k.toNat ≤ 124) (n : ℕ) (hn : n < 4) :
    (Scalar.select (IntOp.cmpi CmpIPredicate.slt (IntOp.addi (BitVec.ofNat 32 n) k) 0#32)
      (IntOp.addi (IntOp.addi (BitVec.ofNat 32 n) k) 128#32) (IntOp.addi (BitVec.ofNat 32 n) k)).toNat % 128 = n + k.toNat := by
  have h : ∀ (n : Fin 4) (k : Fin 125), (Scalar.select (IntOp.cmpi CmpIPredicate.slt (IntOp.addi (BitVec.ofNat 32 n.val) (BitVec.ofNat 32 k.val)) 0#32)
      (IntOp.addi (IntOp.addi (BitVec.ofNat 32 n.val) (BitVec.ofNat 32 k.val)) 128#32) (IntOp.addi (BitVec.ofNat 32 n.val) (BitVec.ofNat 32 k.val))).toNat % 128 = n.val + k.val := by
    decide +kernel
  have e : k = BitVec.ofNat 32 k.toNat := by simp
  have := h ⟨n, hn⟩ ⟨k.toNat, by omega⟩
  simp only [← e] at this
  exact this

/-- The dequantised block: an element times its group's scale. -/
def xhv (x0 : Vec F S256x7168 .fp8e4m3) (x1 : Vec F S256x256 .f32) : Vec F S256x7168 .bf16 := fun y =>
  FloatOps.mulf (FloatOps.extf .bf16 bitsLt_fp8e4m3_bf16 (x0 y))
    (FloatOps.truncf .bf16 bitsLt_bf16_f32 (x1 (ix2 (y 0) ⟨(y 1).val / 32, by have : (y 1).val < 7168 := (y 1).isLt; omega⟩)))

/-- One store's value: columns `o` on, scales from lane `h` on, `k` groups in. -/
def blk (h o : ℕ) (k : BitVec 32) (hh : Shape.Slices S256x256 ![0, h] S256x128) (ho : Shape.Slices S256x7168 ![0, o] S256x128) (v2 : FVec F S256x7168 .bf16) (v4 : FVec F S256x256 .f32) : FVec F S256x128 .bf16 :=
  mulf (extractStridedSlice S256x128 ![0, o] v2 ho)
    (truncf .bf16 (dynamicGather 1 (extractStridedSlice S256x128 ![0, h] v4 hh)
      (shapeCast S256x128 (shapeCast S256x128x1 (select (cmpi .slt (addi k1_pay5 (broadcast S256x128 k)) (broadcast S256x128 0#32))
        (addi (addi k1_pay5 (broadcast S256x128 k)) (broadcast S256x128 128#32)) (addi k1_pay5 (broadcast S256x128 k))) shapeCasts_S256x128_S256x128x1) shapeCasts_S256x128x1_S256x128)) bitsLt_bf16_f32)

theorem blk_apply (h o : ℕ) (k : BitVec 32) (hh ho) (hk : k.toNat ≤ 124) (e : o = 32 * (k.toNat + h)) (x0 : Vec F S256x7168 .fp8e4m3) (x1 : Vec F S256x256 .f32) (x : S256x128.Idx) (y : S256x7168.Idx)
   (hy : ∀ a, (y a : ℕ) = (![0, o] : Fin 2 → ℕ) a + x a) : blk h o k hh ho (k1_pay3 x0) (k1_pay4 x1) x = xhv x0 x1 y := by
  unfold blk k1_pay3 k1_pay4
  pointwise
  have e1 : (⟨o + (x 1).val, by have := hy 1; have := (y 1).isLt; simp_all⟩ : Fin 7168) = y 1 := Fin.ext (hy 1).symm
  have e0 : x 0 = y 0 := Fin.ext (by have := hy 0; simp at this; exact this.symm)
  have hx : (x 1).val < 128 := (x 1).isLt
  unfold xhv
  have ey : (ix2 (x 0) ⟨o + (x 1).val, by have := hy 1; have := (y 1).isLt; simp_all⟩ : S256x7168.Idx) = y := by
    funext a; fin_cases a
    · exact e0
    · exact e1

  congr 2
  · exact congrArg x0 ey
  · congr 2
    refine Fin.ext ?_
    show h + _ = (y 1).val / 32
    rw [lane, gathered k hk _ (by omega), show (y 1).val = o + (x 1).val from hy 1]
    omega

/-- One store, where it holds the index `y`, has there the dequantised value. -/
theorem tile {h o : ℕ} {k : BitVec 32} {x0 v0 : Vec F S256x7168 .fp8e4m3} {x1 v1 : Vec F S256x256 .f32} {y : S256x7168.Idx}
    (hh : Shape.Slices S256x256 ![0, h] S256x128) (ho : Shape.Slices S256x7168 ![0, o] S256x128) (hk : k.toNat ≤ 124) (e : o = 32 * (k.toNat + h)) (h0 : v0 = x0) (h1 : v1 = x1) :
    View.TileAt y ![0, o] S256x128.size (blk h o k hh ho (k1_pay3 v0) (k1_pay4 v1)) (xhv x0 x1 y) := by
  subst h0 h1
  intro x hx
  exact blk_apply h o k hh ho hk e v0 v1 x y hx

end Cert.KernelIdeal.T1

end
-- ==== Proof.R1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit
public import proofs.«01_k».proof.Proof.T1

/-!
# The region of `xh_body`

Each point dequantises 256 rows of `x` and multiplies them by `A`.
-/

@[expose] public section

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at any point, run: the inputs stay and the outputs are stored. -/
theorem run (c : Dev nD) (i : grid1.Coords) (arg1 : Memref sig .tc .vmem S256x7168 .fp8e4m3) (harg1 : arg1.IsWhole) (arg2 : Memref sig .tc .vmem S256x256 .f32) (harg2 : arg2.IsWhole) (arg3 : Memref sig .tc .vmem S7168x96 .bf16) (harg3 : arg3.IsWhole) (arg4 : Memref sig .tc .vmem S256x7168 .bf16) (harg4 : arg4.IsWhole) (arg5 : Memref sig .tc .vmem S256x96 .bf16) (harg5 : arg5.IsWhole)
    (x0 : Vec F S256x7168 .fp8e4m3) (x1 : Vec F S256x256 .f32) (x2 : Vec F S7168x96 .bf16) (o0 : Vec F S256x7168 .bf16) (o1 : Vec F S256x96 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare o0 ∗ owns (c : Thread nD τ) arg5 fullShare o1
      ∗ (iprop(owns (c : Thread nD τ) arg1 fullShare x0 ∗ owns (c : Thread nD τ) arg2 fullShare x1 ∗ owns (c : Thread nD τ) arg3 fullShare x2 ∗ owns (c : Thread nD τ) arg4 fullShare (T1.xhv x0 x1) ∗ owns (c : Thread nD τ) arg5 fullShare (k1_pay2 (T1.xhv x0 x1) x2)) -∗ K ⟨⟩))
    ⊢ wp frame (wpE (defs₀ (F := F)) Variants.none c none) E (cc1__xh_body i arg1 harg1 arg2 harg2 arg3 harg3 arg4 harg4 arg5 harg5) K := by
  simp only [cc1__xh_body_eq_skeleton]; unfold cc1__xh_body_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton]
  unfold owns
  iintro ⟨⟨%f0, %hf0, H0⟩, ⟨%f1, %hf1, H1⟩, ⟨%f2, %hf2, H2⟩, ⟨%g0, %hg0, O0⟩, ⟨%g1, %hg1, O1⟩, Hk⟩
  obtain rfl := harg1.eq_unread hf0; obtain rfl := harg2.eq_unread hf1; obtain rfl := harg3.eq_unread hf2
  sl_exec
  sl_step
  have hc : ∀ y, ∃ p ∈ run.sl.O0_56 c arg1 harg1 arg2 harg2 x0 x1, y ∈ p.1.set := View.cover_of_tiled _ S256x128.size (by rfl)
  have hX : View.canon (run.sl.O0_56 c arg1 harg1 arg2 harg2 x0 x1) = T1.xhv x0 x1 := funext fun y => by
    refine View.canon_eq_of_allAt _ y _ (hc y) ?_
    repeat refine View.allAt_cons_unit _ _ _ _ _ (T1.tile (by first | exact slices_S256x256_o0_0_S256x128 | exact slices_S256x256_o0_128_S256x128) (by decide) (by decide) (by decide) ((View.readAt_full _ _ _).trans hf0) ((View.readAt_full _ _ _).trans hf1)) ?_
    exact View.allAt_nil _ _
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [O0]
  · iexists _; isplitr; swap; · iexact O0
    ipureintro
    exact (View.read_writes_eq_canon _ _ _ hc).trans hX
  iexists _; isplitr; swap; · iexact O1
  ipureintro
  exact (View.read_writes_full _ _ _ _ _).trans (congrArg₂ k1_pay2 (((View.readAt_full _ _ _).trans (View.read_writes_eq_canon _ _ _ hc)).trans hX) ((View.readAt_full _ _ _).trans hf2))

/-! ## The region's proof data -/

variable (W : Dev nD → Valuation τ sig (Elt F))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The region's proof data: the arrays as found; after a point each input's buffer at its block, each output's at its value of those. -/
def dat (c : Dev nD) : Dat τ (Elt F) Unit ℕ (UR sig nD τ) ℕ cfg1 c where
  A w := W c (Proc.devRef .tc (Pipeline.arrRef spec1 w))
  after w t := match w with
    | ⟨0, _⟩ => iblk W c 0 t
    | ⟨1, _⟩ => iblk W c 1 t
    | ⟨2, _⟩ => iblk W c 2 t
    | ⟨3, _⟩ => T1.xhv (iblk W c 0 t) (iblk W c 1 t)
    | ⟨4, _⟩ => k1_pay2 (T1.xhv (iblk W c 0 t) (iblk W c 1 t)) (iblk W c 2 t)
  Φ t := iprop(Pipeline.scopedRest spec1 c ∗ (∃ r, prngReg c r))
  q _ := fullShare
  owed _ := 0

theorem A_eq (c : Dev nD) (w : Fin cfg1.W) : (dat W c).A w = W c (Proc.devRef .tc (Pipeline.arrRef spec1 w)) := by dsimp only [dat]
theorem after_0 (c : Dev nD) (t : Fin cfg1.N) : (dat W c).after 0 t = iblk W c 0 t := by dsimp only [dat]
theorem after_1 (c : Dev nD) (t : Fin cfg1.N) : (dat W c).after 1 t = iblk W c 1 t := by dsimp only [dat]
theorem after_2 (c : Dev nD) (t : Fin cfg1.N) : (dat W c).after 2 t = iblk W c 2 t := by dsimp only [dat]
theorem after_3 (c : Dev nD) (t : Fin cfg1.N) : (dat W c).after 3 t = T1.xhv (iblk W c 0 t) (iblk W c 1 t) := by dsimp only [dat]
theorem after_4 (c : Dev nD) (t : Fin cfg1.N) : (dat W c).after 4 t = k1_pay2 (T1.xhv (iblk W c 0 t) (iblk W c 1 t)) (iblk W c 2 t) := by dsimp only [dat]
theorem before_0 (c : Dev nD) (t : Fin cfg1.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem leaves_0 (c : Dev nD) (t : Fin cfg1.N) : (dat W c).leavesExact 0 t = owns (c : Thread nD τ) (st1_0 t) fullShare (iblk W c 0 t) := by
  unfold Dat.leavesExact; rw [show cfg1.idle 0 (grid1.coords t) = false from rfl, after_0]
theorem leaves_1 (c : Dev nD) (t : Fin cfg1.N) : (dat W c).leavesExact 1 t = owns (c : Thread nD τ) (st1_1 t) fullShare (iblk W c 1 t) := by
  unfold Dat.leavesExact; rw [show cfg1.idle 1 (grid1.coords t) = false from rfl, after_1]
theorem leaves_2 (c : Dev nD) (t : Fin cfg1.N) : (dat W c).leavesExact 2 t = owns (c : Thread nD τ) (st1_2 t) fullShare (iblk W c 2 t) := by
  unfold Dat.leavesExact; rw [show cfg1.idle 2 (grid1.coords t) = false from rfl, after_2]
theorem leaves_3 (c : Dev nD) (t : Fin cfg1.N) : (dat W c).leavesExact 3 t = owns (c : Thread nD τ) (st1_3 t) fullShare (T1.xhv (iblk W c 0 t) (iblk W c 1 t)) := by
  unfold Dat.leavesExact; rw [show cfg1.idle 3 (grid1.coords t) = false from rfl, after_3]
theorem leaves_4 (c : Dev nD) (t : Fin cfg1.N) : (dat W c).leavesExact 4 t = owns (c : Thread nD τ) (st1_4 t) fullShare (k1_pay2 (T1.xhv (iblk W c 0 t) (iblk W c 1 t)) (iblk W c 2 t)) := by
  unfold Dat.leavesExact; rw [show cfg1.idle 4 (grid1.coords t) = false from rfl, after_4]

/-- The body at any point takes the invariant and the buffers from one point to the next. -/
theorem sound (c : Dev nD) (t : Fin cfg1.N) :
    iprop((dat W c).Φ t.castSucc ∗ (dat W c).owesAt () t.castSucc
      ∗ (∃ d, owns (c : Thread nD τ) (st1_0 t) fullShare ((dat W c).before 0 t d)) ∗ (∃ d, owns (c : Thread nD τ) (st1_1 t) fullShare ((dat W c).before 1 t d)) ∗ (∃ d, owns (c : Thread nD τ) (st1_2 t) fullShare ((dat W c).before 2 t d)) ∗ (∃ d, owns (c : Thread nD τ) (st1_3 t) fullShare ((dat W c).before 3 t d)) ∗ (∃ d, owns (c : Thread nD τ) (st1_4 t) fullShare ((dat W c).before 4 t d)))
    ⊢ wp frame (wpE (defs₀ (F := F)) Variants.none c none) Set.univ (bodyAt1 t)
      (fun _ => iprop((dat W c).Φ t.succ ∗ (dat W c).owesAt () t.succ
        ∗ (dat W c).leavesExact 0 t ∗ (dat W c).leavesExact 1 t ∗ (dat W c).leavesExact 2 t ∗ (dat W c).leavesExact 3 t ∗ (dat W c).leavesExact 4 t)) := by
  unfold bodyAt1
  simp only [before_0, before_1, before_2]
  rw [show (dat W c).owesAt () t.succ = (dat W c).owesAt () t.castSucc from rfl, show (dat W c).Φ t.succ = (dat W c).Φ t.castSucc from rfl, leaves_0, leaves_1, leaves_2, leaves_3, leaves_4]
  iintro ⟨HΦ, Ho, ⟨%d0, H0⟩, ⟨%d1, H1⟩, ⟨%d2, H2⟩, ⟨%d3, H3⟩, ⟨%d4, H4⟩⟩
  iapply (run c (grid1.coords t) _ _ _ _ _ _ _ _ _ _ (iblk W c 0 t) (iblk W c 1 t) (iblk W c 2 t) _ _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body (c : Dev nD) : BodyObligation (dat W c) (defs₀ (F := F)) Variants.none () Set.univ := fun t => by
  rw [bigSep_W1, bigSep_W1, show defs₀ (F := F) .tc cfg1.body (cfg1.bodyArgs t (cfg1.slots t)) = bodyAt1 t from by unfold defs₀; rw [Defs.onTc_tc]]
  exact triple_restated (sound W c t) rfl .rfl fun _ => .rfl

theorem hin (c : Dev nD) : iprop(Pipeline.scopedRest spec1 c ∗ (∃ r, prngReg c r)) ⊢ (dat W c).Φ 0 := .rfl

theorem hout (c : Dev nD) : (dat W c).Φ (Fin.last cfg1.N) ⊢ iprop(Pipeline.scopedRest spec1 c ∗ (∃ r, prngReg c r)) := .rfl

end Cert.KernelIdeal.R1

end
-- ==== Proof.R2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

/-!
# The region of `_dx_body`

Nine steps per output block accumulate `(dy * g) vᵀ`; the last stores the accumulator in the output block.
-/

@[expose] public section

set_option maxRecDepth 16384

noncomputable section

namespace Cert.KernelIdeal.R2

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a point's coordinates. -/
abbrev first (i : grid2.Coords) : Prop := (Scalar.cmpi .ne (Scalar.extui (Scalar.cmpi .eq (BitVec.ofNat 32 (i 2).val) 0#32)) 0#32) = 1#1
/-- It holds at the first step of a run of 9. -/
theorem first_iff (t : Fin cfg2.N) : first (grid2.coords t) ↔ t.val % 9 = 0 := by
  have e2 : (grid2.coords t 2).val = t.val / 1 % 9 := Pipeline.Grid.coords_val t 2 (by decide) rfl
  simp only [first, e2]
  word_cmp
/-- The second branch's condition holds at the last step. -/
theorem last_iff (t : Fin cfg2.N) : k2_cond2 (grid2.coords t) = 1#1 ↔ t.val % 9 = 8 := by
  have e2 : (grid2.coords t 2).val = t.val / 1 % 9 := Pipeline.Grid.coords_val t 2 (by decide) rfl
  simp only [k2_cond2, e2]
  word_cmp

/-- Equal arguments give equal values. -/
theorem cong1 {T0 R : Type} (f : T0 → R) {a0 b0} (h0 : a0 = b0) :
    f a0 = f b0 := by
  subst h0; rfl

/-- Equal arguments give equal values. -/
theorem cong4 {T0 T1 T2 T3 R : Type} (f : T0 → T1 → T2 → T3 → R) {a0 b0 a1 b1 a2 b2 a3 b3} (h0 : a0 = b0) (h1 : a1 = b1) (h2 : a2 = b2) (h3 : a3 = b3) :
    f a0 a1 a2 a3 = f b0 b1 b2 b3 := by
  subst h0 h1 h2 h3; rfl

open Classical in
/-- What a point leaves in the accumulator: one more product added to it, from zero at the first step. -/
def step0 (i : grid2.Coords) (x0 : Vec F S1024x2048 .bf16) (x1 : Vec F S1x2048 .f32) (x2 : Vec F S1024x2048 .bf16) (s : Vec F S1024x1024 .f32) : Vec F S1024x1024 .f32 :=
  k2_pay2 x0 x1 (if first i then k2_pay1 else s) x2

set_option maxHeartbeats 1000000 in
/-- The body at any point, run: the inputs stay, each accumulator takes its step, and at the last step of a run the outputs are stored. -/
theorem run (c : Dev nD) (i : grid2.Coords) (arg3 : Memref sig .tc .vmem S1024x2048 .bf16) (harg3 : arg3.IsWhole) (arg4 : Memref sig .tc .vmem S1x2048 .f32) (harg4 : arg4.IsWhole) (arg5 : Memref sig .tc .vmem S1024x2048 .bf16) (harg5 : arg5.IsWhole) (arg6 : Memref sig .tc .vmem S1024x1024 .bf16) (harg6 : arg6.IsWhole) (arg7 : Memref sig .tc .vmem S1024x1024 .f32) (harg7 : arg7.IsWhole)
    (x0 : Vec F S1024x2048 .bf16) (x1 : Vec F S1x2048 .f32) (x2 : Vec F S1024x2048 .bf16) (o0 : Vec F S1024x1024 .bf16) (s0 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare o0 ∗ owns (c : Thread nD τ) arg7 fullShare s0
      ∗ (iprop(owns (c : Thread nD τ) arg3 fullShare x0 ∗ owns (c : Thread nD τ) arg4 fullShare x1 ∗ owns (c : Thread nD τ) arg5 fullShare x2 ∗ owns (c : Thread nD τ) arg6 fullShare (open Classical in if k2_cond2 i = 1#1 then k2_pay3 (step0 i x0 x1 x2 s0) else o0) ∗ owns (c : Thread nD τ) arg7 fullShare (step0 i x0 x1 x2 s0)) -∗ K ⟨⟩))
    ⊢ wp frame (wpE (defs₀ (F := F)) Variants.none c none) E (cc2__dx_body i arg3 harg3 arg4 harg4 arg5 harg5 arg6 harg6 arg7 harg7) K := by
  simp only [cc2__dx_body_eq_skeleton]; unfold cc2__dx_body_skel
  unfold owns step0
  iintro ⟨⟨%f0, %hf0, H0⟩, ⟨%f1, %hf1, H1⟩, ⟨%f2, %hf2, H2⟩, ⟨%g0, %hg0, O0⟩, ⟨%fs0, %hfs0, S0⟩, Hk⟩
  obtain rfl := harg3.eq_unread hf0; obtain rfl := harg4.eq_unread hf1; obtain rfl := harg5.eq_unread hf2; obtain rfl := harg6.eq_unread hg0; obtain rfl := harg7.eq_unread hfs0
  by_cases hc0 : first i <;> by_cases hc1 : k2_cond2 i = 1#1
  all_goals
    repeat first | rw [if_pos hc0] | rw [if_neg hc0] | rw [if_pos hc1] | rw [if_neg hc1]
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [O0]
    · iexists _; isplitr; swap; · iexact O0
      ipureintro
      first
        | (guard_hyp hc1 : ¬ k2_cond2 i = 1#1; exact harg6.read_unread _)
        | (guard_hyp hc0 : first i; exact (View.read_writes_full _ _ _ _ _).trans (cong1 _ ((View.readCov_full _ _ _ _ _).trans (cong4 _ ((View.readAt_full _ _ _).trans hf0) ((View.readAt_full _ _ _).trans hf1) (View.readCov_full _ _ _ _ _) ((View.readAt_full _ _ _).trans hf2)))))
        | exact (View.read_writes_full _ _ _ _ _).trans (cong1 _ ((View.readCov_full _ _ _ _ _).trans (cong4 _ ((View.readAt_full _ _ _).trans hf0) ((View.readAt_full _ _ _).trans hf1) ((View.readAt_full _ _ _).trans hfs0) ((View.readAt_full _ _ _).trans hf2))))
    iexists _; isplitr; swap; · iexact S0
    ipureintro
    first
      | (guard_hyp hc0 : first i; exact (View.read_writes_full _ _ _ _ _).trans (cong4 _ ((View.readAt_full _ _ _).trans hf0) ((View.readAt_full _ _ _).trans hf1) (View.readCov_full _ _ _ _ _) ((View.readAt_full _ _ _).trans hf2)))
      | exact (View.read_writes_full _ _ _ _ _).trans (cong4 _ ((View.readAt_full _ _ _).trans hf0) ((View.readAt_full _ _ _).trans hf1) ((View.readAt_full _ _ _).trans hfs0) ((View.readAt_full _ _ _).trans hf2))

/-! ## The region's proof data -/

variable (W : Dev nD → Valuation τ sig (Elt F))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- What accumulator 0 holds before point `n` (at the first point: anything). -/
def acc0 (c : Dev nD) : ℕ → Vec F S1024x1024 .f32
  | 0 => k2_pay1
  | n + 1 => if h : n < cfg2.N then step0 (grid2.coords ⟨n, h⟩) (iblk W c 0 ⟨n, h⟩) (iblk W c 1 ⟨n, h⟩) (iblk W c 2 ⟨n, h⟩) (acc0 c n) else acc0 c n

theorem acc0_succ (c : Dev nD) (t : Fin cfg2.N) (s : Vec F S1024x1024 .f32) (hs : t.val ≠ 0 → s = acc0 W c t.val) :
    acc0 W c (t.val + 1) = step0 (grid2.coords t) (iblk W c 0 t) (iblk W c 1 t) (iblk W c 2 t) s := by
  obtain ⟨n, hn⟩ := t
  refine (dif_pos hn).trans ?_
  by_cases h : n = 0
  · unfold step0
    rw [if_pos ((first_iff ⟨n, hn⟩).mpr (by show n % 9 = 0; omega)), if_pos ((first_iff ⟨n, hn⟩).mpr (by show n % 9 = 0; omega))]
  · rw [hs h]

/-- The region's proof data: the arrays as found; after a point each input's buffer at its block, each output's at its value of the
    accumulators; the accumulators at their running contents. -/
def dat (c : Dev nD) : Dat τ (Elt F) Unit ℕ (UR sig nD τ) ℕ cfg2 c where
  A w := W c (Proc.devRef .tc (Pipeline.arrRef spec2 w))
  after w t := match w with
    | ⟨0, _⟩ => iblk W c 0 t
    | ⟨1, _⟩ => iblk W c 1 t
    | ⟨2, _⟩ => iblk W c 2 t
    | ⟨3, _⟩ => k2_pay3 (acc0 W c (t.val + 1))
  Φ t := iprop((∃ s, ⌜t.val ≠ 0 → s = acc0 W c t.val⌝ ∗ owns (c : Thread nD τ) (Memref.whole cc2_scratch0) fullShare s) ∗ Pipeline.scopedRestBut spec2 c [cc2_scratch0] ∗ (∃ r, prngReg c r))
  q _ := fullShare
  owed _ := 0

theorem A_eq (c : Dev nD) (w : Fin cfg2.W) : (dat W c).A w = W c (Proc.devRef .tc (Pipeline.arrRef spec2 w)) := by dsimp only [dat]
theorem Φ_eq (c : Dev nD) (t : Fin (cfg2.N + 1)) : (dat W c).Φ t = iprop((∃ s, ⌜t.val ≠ 0 → s = acc0 W c t.val⌝ ∗ owns (c : Thread nD τ) (Memref.whole cc2_scratch0) fullShare s) ∗ Pipeline.scopedRestBut spec2 c [cc2_scratch0] ∗ (∃ r, prngReg c r)) := by dsimp only [dat]
theorem after_0 (c : Dev nD) (t : Fin cfg2.N) : (dat W c).after 0 t = iblk W c 0 t := by dsimp only [dat]
theorem after_1 (c : Dev nD) (t : Fin cfg2.N) : (dat W c).after 1 t = iblk W c 1 t := by dsimp only [dat]
theorem after_2 (c : Dev nD) (t : Fin cfg2.N) : (dat W c).after 2 t = iblk W c 2 t := by dsimp only [dat]
theorem after_3 (c : Dev nD) (t : Fin cfg2.N) : (dat W c).after 3 t = k2_pay3 (acc0 W c (t.val + 1)) := by dsimp only [dat]
theorem before_0 (c : Dev nD) (t : Fin cfg2.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem leaves_0 (c : Dev nD) (t : Fin cfg2.N) : (dat W c).leavesExact 0 t = owns (c : Thread nD τ) (st2_0 t) fullShare (iblk W c 0 t) := by
  unfold Dat.leavesExact; rw [show cfg2.idle 0 (grid2.coords t) = false from rfl, after_0]
theorem before_1 (c : Dev nD) (t : Fin cfg2.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem leaves_1 (c : Dev nD) (t : Fin cfg2.N) : (dat W c).leavesExact 1 t = owns (c : Thread nD τ) (st2_1 t) fullShare (iblk W c 1 t) := by
  unfold Dat.leavesExact; rw [show cfg2.idle 1 (grid2.coords t) = false from rfl, after_1]
theorem before_2 (c : Dev nD) (t : Fin cfg2.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem leaves_2 (c : Dev nD) (t : Fin cfg2.N) : (dat W c).leavesExact 2 t = owns (c : Thread nD τ) (st2_2 t) fullShare (iblk W c 2 t) := by
  unfold Dat.leavesExact; rw [show cfg2.idle 2 (grid2.coords t) = false from rfl, after_2]

/-- Output 0 is idle, and not written back, where the second branch is not taken. -/
theorem idle_3 (t : Fin cfg2.N) (h : ¬ k2_cond2 (grid2.coords t) = 1#1) : cfg2.idle 3 (grid2.coords t) = true := by
  show (!(k2_cond2 (grid2.coords t) == 1#1)) = true
  simp [h]
theorem live_3 (t : Fin cfg2.N) (h : k2_cond2 (grid2.coords t) = 1#1) : cfg2.idle 3 (grid2.coords t) = false := by
  show (!(k2_cond2 (grid2.coords t) == 1#1)) = false
  simp [h]
theorem noFlush_3 (t : Fin cfg2.N) (h : ¬ k2_cond2 (grid2.coords t) = 1#1) : (cfg2.win 3).flush t = false := by
  cases hf : (cfg2.win 3).flush t
  · rfl
  · exact absurd ((last_iff t).mpr ((flush2_3 t).mp hf)) h

/-- The body at any point takes the invariant and the buffers from one point to the next. -/
theorem sound (c : Dev nD) (t : Fin cfg2.N) :
    iprop((dat W c).Φ t.castSucc ∗ (dat W c).owesAt () t.castSucc
      ∗ (∃ d, owns (c : Thread nD τ) (st2_0 t) fullShare ((dat W c).before 0 t d)) ∗ (∃ d, owns (c : Thread nD τ) (st2_1 t) fullShare ((dat W c).before 1 t d)) ∗ (∃ d, owns (c : Thread nD τ) (st2_2 t) fullShare ((dat W c).before 2 t d)) ∗ (∃ d, owns (c : Thread nD τ) (st2_3 t) fullShare ((dat W c).before 3 t d)))
    ⊢ wp frame (wpE (defs₀ (F := F)) Variants.none c none) Set.univ (bodyAt2 t)
      (fun _ => iprop((dat W c).Φ t.succ ∗ (dat W c).owesAt () t.succ
        ∗ (dat W c).leavesExact 0 t ∗ (dat W c).leavesExact 1 t ∗ (dat W c).leavesExact 2 t ∗ (dat W c).leavesExact 3 t)) := by
  unfold bodyAt2
  simp only [before_0, before_1, before_2]
  rw [show (dat W c).owesAt () t.succ = (dat W c).owesAt () t.castSucc from rfl, leaves_0, leaves_1, leaves_2, Φ_eq, Φ_eq]
  simp only [Fin.val_castSucc, Fin.val_succ]
  iintro ⟨⟨⟨%s0, %hs0, S0⟩, Hr, Hg⟩, Ho, ⟨%d0, H0⟩, ⟨%d1, H1⟩, ⟨%d2, H2⟩, ⟨%d3, H3⟩⟩
  iapply (run c (grid2.coords t) _ _ _ _ _ _ _ _ _ (Memref.isWhole_whole _) (iblk W c 0 t) (iblk W c 1 t) (iblk W c 2 t) _ s0 Set.univ _)
  isplitl [H0]; · iexact H0
  isplitl [H1]; · iexact H1
  isplitl [H2]; · iexact H2
  isplitl [H3]; · iexact H3
  isplitl [S0]; · iexact S0
  iintro ⟨H0, H1, H2, H3, S0⟩
  isplitl [S0 Hr Hg]
  · skip
    isplitl [S0]
    · iexists _; isplitr; swap; · iexact S0
      ipureintro; intro _; exact (acc0_succ W c t s0 hs0).symm
    isplitl [Hr]; · iexact Hr
    iexact Hg
  isplitl [Ho]; · iexact Ho
  isplitl [H0]; · iexact H0
  isplitl [H1]; · iexact H1
  isplitl [H2]; · iexact H2
  by_cases h : k2_cond2 (grid2.coords t) = 1#1
  · rw [if_pos h, ← acc0_succ W c t s0 hs0,
      show (dat W c).leavesExact 3 t = owns (c : Thread nD τ) (st2_3 t) fullShare (k2_pay3 (acc0 W c (t.val + 1))) from by
      unfold Dat.leavesExact; rw [live_3 t h, after_3]]
    iexact H3
  · rw [if_neg h, Dat.leavesExact_idle (dat W c) 3 t (idle_3 t h) (noFlush_3 t h)]
    iexists _; iexact H3

/-- The library's body obligation, at every point. -/
theorem body (c : Dev nD) : BodyObligation (dat W c) (defs₀ (F := F)) Variants.none () Set.univ := fun t => by
  rw [bigSep_W2, bigSep_W2, show defs₀ (F := F) .tc cfg2.body (cfg2.bodyArgs t (cfg2.slots t)) = bodyAt2 t from by unfold defs₀; rw [Defs.onTc_tc]]
  exact triple_restated (sound W c t) rfl .rfl fun _ => .rfl

theorem hin (c : Dev nD) : iprop(Pipeline.scopedRest spec2 c ∗ (∃ r, prngReg c r)) ⊢ (dat W c).Φ 0 := by
  rw [scopedRest2_split, Φ_eq]
  simp only [owns_whole]
  iintro ⟨⟨⟨%f0, S0⟩, Hr⟩, Hg⟩
  isplitl [S0]
  · iexists f0; isplitr
    · ipureintro; intro h; exact absurd rfl h
    iexact S0
  isplitl [Hr]; · iexact Hr
  iexact Hg

theorem hout (c : Dev nD) : (dat W c).Φ (Fin.last cfg2.N) ⊢ iprop(Pipeline.scopedRest spec2 c ∗ (∃ r, prngReg c r)) := by
  rw [scopedRest2_split, Φ_eq]
  simp only [owns_whole]
  iintro ⟨⟨%s0, -, S0⟩, Hr, Hg⟩
  isplitl [S0 Hr]
  · isplitl [S0]
    · iexists _; iexact S0
    iexact Hr
  iexact Hg

end Cert.KernelIdeal.R2

end
-- ==== Proof.R3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

/-!
# The region of `_h_body`

Nine steps per output block accumulate `(dy * g) Bᵀ`; the last stores the accumulator in the output block.
-/

@[expose] public section

set_option maxRecDepth 16384

noncomputable section

namespace Cert.KernelIdeal.R3

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a point's coordinates. -/
abbrev first (i : grid3.Coords) : Prop := (Scalar.cmpi .ne (Scalar.extui (Scalar.cmpi .eq (BitVec.ofNat 32 (i 1).val) 0#32)) 0#32) = 1#1
/-- It holds at the first step of a run of 9. -/
theorem first_iff (t : Fin cfg3.N) : first (grid3.coords t) ↔ t.val % 9 = 0 := by
  have e2 : (grid3.coords t 1).val = t.val / 1 % 9 := Pipeline.Grid.coords_val t 1 (by decide) rfl
  simp only [first, e2]
  word_cmp
/-- The second branch's condition holds at the last step. -/
theorem last_iff (t : Fin cfg3.N) : k3_cond2 (grid3.coords t) = 1#1 ↔ t.val % 9 = 8 := by
  have e2 : (grid3.coords t 1).val = t.val / 1 % 9 := Pipeline.Grid.coords_val t 1 (by decide) rfl
  simp only [k3_cond2, e2]
  word_cmp

/-- Equal arguments give equal values. -/
theorem cong1 {T0 R : Type} (f : T0 → R) {a0 b0} (h0 : a0 = b0) :
    f a0 = f b0 := by
  subst h0; rfl

/-- Equal arguments give equal values. -/
theorem cong4 {T0 T1 T2 T3 R : Type} (f : T0 → T1 → T2 → T3 → R) {a0 b0 a1 b1 a2 b2 a3 b3} (h0 : a0 = b0) (h1 : a1 = b1) (h2 : a2 = b2) (h3 : a3 = b3) :
    f a0 a1 a2 a3 = f b0 b1 b2 b3 := by
  subst h0 h1 h2 h3; rfl

open Classical in
/-- What a point leaves in the accumulator: one more product added to it, from zero at the first step. -/
def step0 (i : grid3.Coords) (x0 : Vec F S1024x2048 .bf16) (x1 : Vec F S1x2048 .f32) (x2 : Vec F S96x2048 .bf16) (s : Vec F S1024x96 .f32) : Vec F S1024x96 .f32 :=
  k3_pay2 x0 x1 (if first i then k3_pay1 else s) x2

set_option maxHeartbeats 1000000 in
/-- The body at any point, run: the inputs stay, each accumulator takes its step, and at the last step of a run the outputs are stored. -/
theorem run (c : Dev nD) (i : grid3.Coords) (arg2 : Memref sig .tc .vmem S1024x2048 .bf16) (harg2 : arg2.IsWhole) (arg3 : Memref sig .tc .vmem S1x2048 .f32) (harg3 : arg3.IsWhole) (arg4 : Memref sig .tc .vmem S96x2048 .bf16) (harg4 : arg4.IsWhole) (arg5 : Memref sig .tc .vmem S1024x96 .bf16) (harg5 : arg5.IsWhole) (arg6 : Memref sig .tc .vmem S1024x96 .f32) (harg6 : arg6.IsWhole)
    (x0 : Vec F S1024x2048 .bf16) (x1 : Vec F S1x2048 .f32) (x2 : Vec F S96x2048 .bf16) (o0 : Vec F S1024x96 .bf16) (s0 : Vec F S1024x96 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare o0 ∗ owns (c : Thread nD τ) arg6 fullShare s0
      ∗ (iprop(owns (c : Thread nD τ) arg2 fullShare x0 ∗ owns (c : Thread nD τ) arg3 fullShare x1 ∗ owns (c : Thread nD τ) arg4 fullShare x2 ∗ owns (c : Thread nD τ) arg5 fullShare (open Classical in if k3_cond2 i = 1#1 then k3_pay3 (step0 i x0 x1 x2 s0) else o0) ∗ owns (c : Thread nD τ) arg6 fullShare (step0 i x0 x1 x2 s0)) -∗ K ⟨⟩))
    ⊢ wp frame (wpE (defs₀ (F := F)) Variants.none c none) E (cc3__h_body i arg2 harg2 arg3 harg3 arg4 harg4 arg5 harg5 arg6 harg6) K := by
  simp only [cc3__h_body_eq_skeleton]; unfold cc3__h_body_skel
  unfold owns step0
  iintro ⟨⟨%f0, %hf0, H0⟩, ⟨%f1, %hf1, H1⟩, ⟨%f2, %hf2, H2⟩, ⟨%g0, %hg0, O0⟩, ⟨%fs0, %hfs0, S0⟩, Hk⟩
  obtain rfl := harg2.eq_unread hf0; obtain rfl := harg3.eq_unread hf1; obtain rfl := harg4.eq_unread hf2; obtain rfl := harg5.eq_unread hg0; obtain rfl := harg6.eq_unread hfs0
  by_cases hc0 : first i <;> by_cases hc1 : k3_cond2 i = 1#1
  all_goals
    repeat first | rw [if_pos hc0] | rw [if_neg hc0] | rw [if_pos hc1] | rw [if_neg hc1]
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [O0]
    · iexists _; isplitr; swap; · iexact O0
      ipureintro
      first
        | (guard_hyp hc1 : ¬ k3_cond2 i = 1#1; exact harg5.read_unread _)
        | (guard_hyp hc0 : first i; exact (View.read_writes_full _ _ _ _ _).trans (cong1 _ ((View.readCov_full _ _ _ _ _).trans (cong4 _ ((View.readAt_full _ _ _).trans hf0) ((View.readAt_full _ _ _).trans hf1) (View.readCov_full _ _ _ _ _) ((View.readAt_full _ _ _).trans hf2)))))
        | exact (View.read_writes_full _ _ _ _ _).trans (cong1 _ ((View.readCov_full _ _ _ _ _).trans (cong4 _ ((View.readAt_full _ _ _).trans hf0) ((View.readAt_full _ _ _).trans hf1) ((View.readAt_full _ _ _).trans hfs0) ((View.readAt_full _ _ _).trans hf2))))
    iexists _; isplitr; swap; · iexact S0
    ipureintro
    first
      | (guard_hyp hc0 : first i; exact (View.read_writes_full _ _ _ _ _).trans (cong4 _ ((View.readAt_full _ _ _).trans hf0) ((View.readAt_full _ _ _).trans hf1) (View.readCov_full _ _ _ _ _) ((View.readAt_full _ _ _).trans hf2)))
      | exact (View.read_writes_full _ _ _ _ _).trans (cong4 _ ((View.readAt_full _ _ _).trans hf0) ((View.readAt_full _ _ _).trans hf1) ((View.readAt_full _ _ _).trans hfs0) ((View.readAt_full _ _ _).trans hf2))

/-! ## The region's proof data -/

variable (W : Dev nD → Valuation τ sig (Elt F))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- What accumulator 0 holds before point `n` (at the first point: anything). -/
def acc0 (c : Dev nD) : ℕ → Vec F S1024x96 .f32
  | 0 => k3_pay1
  | n + 1 => if h : n < cfg3.N then step0 (grid3.coords ⟨n, h⟩) (iblk W c 0 ⟨n, h⟩) (iblk W c 1 ⟨n, h⟩) (iblk W c 2 ⟨n, h⟩) (acc0 c n) else acc0 c n

theorem acc0_succ (c : Dev nD) (t : Fin cfg3.N) (s : Vec F S1024x96 .f32) (hs : t.val ≠ 0 → s = acc0 W c t.val) :
    acc0 W c (t.val + 1) = step0 (grid3.coords t) (iblk W c 0 t) (iblk W c 1 t) (iblk W c 2 t) s := by
  obtain ⟨n, hn⟩ := t
  refine (dif_pos hn).trans ?_
  by_cases h : n = 0
  · unfold step0
    rw [if_pos ((first_iff ⟨n, hn⟩).mpr (by show n % 9 = 0; omega)), if_pos ((first_iff ⟨n, hn⟩).mpr (by show n % 9 = 0; omega))]
  · rw [hs h]

/-- The region's proof data: the arrays as found; after a point each input's buffer at its block, each output's at its value of the
    accumulators; the accumulators at their running contents. -/
def dat (c : Dev nD) : Dat τ (Elt F) Unit ℕ (UR sig nD τ) ℕ cfg3 c where
  A w := W c (Proc.devRef .tc (Pipeline.arrRef spec3 w))
  after w t := match w with
    | ⟨0, _⟩ => iblk W c 0 t
    | ⟨1, _⟩ => iblk W c 1 t
    | ⟨2, _⟩ => iblk W c 2 t
    | ⟨3, _⟩ => k3_pay3 (acc0 W c (t.val + 1))
  Φ t := iprop((∃ s, ⌜t.val ≠ 0 → s = acc0 W c t.val⌝ ∗ owns (c : Thread nD τ) (Memref.whole cc3_scratch0) fullShare s) ∗ Pipeline.scopedRestBut spec3 c [cc3_scratch0] ∗ (∃ r, prngReg c r))
  q _ := fullShare
  owed _ := 0

theorem A_eq (c : Dev nD) (w : Fin cfg3.W) : (dat W c).A w = W c (Proc.devRef .tc (Pipeline.arrRef spec3 w)) := by dsimp only [dat]
theorem Φ_eq (c : Dev nD) (t : Fin (cfg3.N + 1)) : (dat W c).Φ t = iprop((∃ s, ⌜t.val ≠ 0 → s = acc0 W c t.val⌝ ∗ owns (c : Thread nD τ) (Memref.whole cc3_scratch0) fullShare s) ∗ Pipeline.scopedRestBut spec3 c [cc3_scratch0] ∗ (∃ r, prngReg c r)) := by dsimp only [dat]
theorem after_0 (c : Dev nD) (t : Fin cfg3.N) : (dat W c).after 0 t = iblk W c 0 t := by dsimp only [dat]
theorem after_1 (c : Dev nD) (t : Fin cfg3.N) : (dat W c).after 1 t = iblk W c 1 t := by dsimp only [dat]
theorem after_2 (c : Dev nD) (t : Fin cfg3.N) : (dat W c).after 2 t = iblk W c 2 t := by dsimp only [dat]
theorem after_3 (c : Dev nD) (t : Fin cfg3.N) : (dat W c).after 3 t = k3_pay3 (acc0 W c (t.val + 1)) := by dsimp only [dat]
theorem before_0 (c : Dev nD) (t : Fin cfg3.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem leaves_0 (c : Dev nD) (t : Fin cfg3.N) : (dat W c).leavesExact 0 t = owns (c : Thread nD τ) (st3_0 t) fullShare (iblk W c 0 t) := by
  unfold Dat.leavesExact; rw [show cfg3.idle 0 (grid3.coords t) = false from rfl, after_0]
theorem before_1 (c : Dev nD) (t : Fin cfg3.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem leaves_1 (c : Dev nD) (t : Fin cfg3.N) : (dat W c).leavesExact 1 t = owns (c : Thread nD τ) (st3_1 t) fullShare (iblk W c 1 t) := by
  unfold Dat.leavesExact; rw [show cfg3.idle 1 (grid3.coords t) = false from rfl, after_1]
theorem before_2 (c : Dev nD) (t : Fin cfg3.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem leaves_2 (c : Dev nD) (t : Fin cfg3.N) : (dat W c).leavesExact 2 t = owns (c : Thread nD τ) (st3_2 t) fullShare (iblk W c 2 t) := by
  unfold Dat.leavesExact; rw [show cfg3.idle 2 (grid3.coords t) = false from rfl, after_2]

/-- Output 0 is idle, and not written back, where the second branch is not taken. -/
theorem idle_3 (t : Fin cfg3.N) (h : ¬ k3_cond2 (grid3.coords t) = 1#1) : cfg3.idle 3 (grid3.coords t) = true := by
  show (!(k3_cond2 (grid3.coords t) == 1#1)) = true
  simp [h]
theorem live_3 (t : Fin cfg3.N) (h : k3_cond2 (grid3.coords t) = 1#1) : cfg3.idle 3 (grid3.coords t) = false := by
  show (!(k3_cond2 (grid3.coords t) == 1#1)) = false
  simp [h]
theorem noFlush_3 (t : Fin cfg3.N) (h : ¬ k3_cond2 (grid3.coords t) = 1#1) : (cfg3.win 3).flush t = false := by
  cases hf : (cfg3.win 3).flush t
  · rfl
  · exact absurd ((last_iff t).mpr ((flush3_3 t).mp hf)) h

/-- The body at any point takes the invariant and the buffers from one point to the next. -/
theorem sound (c : Dev nD) (t : Fin cfg3.N) :
    iprop((dat W c).Φ t.castSucc ∗ (dat W c).owesAt () t.castSucc
      ∗ (∃ d, owns (c : Thread nD τ) (st3_0 t) fullShare ((dat W c).before 0 t d)) ∗ (∃ d, owns (c : Thread nD τ) (st3_1 t) fullShare ((dat W c).before 1 t d)) ∗ (∃ d, owns (c : Thread nD τ) (st3_2 t) fullShare ((dat W c).before 2 t d)) ∗ (∃ d, owns (c : Thread nD τ) (st3_3 t) fullShare ((dat W c).before 3 t d)))
    ⊢ wp frame (wpE (defs₀ (F := F)) Variants.none c none) Set.univ (bodyAt3 t)
      (fun _ => iprop((dat W c).Φ t.succ ∗ (dat W c).owesAt () t.succ
        ∗ (dat W c).leavesExact 0 t ∗ (dat W c).leavesExact 1 t ∗ (dat W c).leavesExact 2 t ∗ (dat W c).leavesExact 3 t)) := by
  unfold bodyAt3
  simp only [before_0, before_1, before_2]
  rw [show (dat W c).owesAt () t.succ = (dat W c).owesAt () t.castSucc from rfl, leaves_0, leaves_1, leaves_2, Φ_eq, Φ_eq]
  simp only [Fin.val_castSucc, Fin.val_succ]
  iintro ⟨⟨⟨%s0, %hs0, S0⟩, Hr, Hg⟩, Ho, ⟨%d0, H0⟩, ⟨%d1, H1⟩, ⟨%d2, H2⟩, ⟨%d3, H3⟩⟩
  iapply (run c (grid3.coords t) _ _ _ _ _ _ _ _ _ (Memref.isWhole_whole _) (iblk W c 0 t) (iblk W c 1 t) (iblk W c 2 t) _ s0 Set.univ _)
  isplitl [H0]; · iexact H0
  isplitl [H1]; · iexact H1
  isplitl [H2]; · iexact H2
  isplitl [H3]; · iexact H3
  isplitl [S0]; · iexact S0
  iintro ⟨H0, H1, H2, H3, S0⟩
  isplitl [S0 Hr Hg]
  · skip
    isplitl [S0]
    · iexists _; isplitr; swap; · iexact S0
      ipureintro; intro _; exact (acc0_succ W c t s0 hs0).symm
    isplitl [Hr]; · iexact Hr
    iexact Hg
  isplitl [Ho]; · iexact Ho
  isplitl [H0]; · iexact H0
  isplitl [H1]; · iexact H1
  isplitl [H2]; · iexact H2
  by_cases h : k3_cond2 (grid3.coords t) = 1#1
  · rw [if_pos h, ← acc0_succ W c t s0 hs0,
      show (dat W c).leavesExact 3 t = owns (c : Thread nD τ) (st3_3 t) fullShare (k3_pay3 (acc0 W c (t.val + 1))) from by
      unfold Dat.leavesExact; rw [live_3 t h, after_3]]
    iexact H3
  · rw [if_neg h, Dat.leavesExact_idle (dat W c) 3 t (idle_3 t h) (noFlush_3 t h)]
    iexists _; iexact H3

/-- The library's body obligation, at every point. -/
theorem body (c : Dev nD) : BodyObligation (dat W c) (defs₀ (F := F)) Variants.none () Set.univ := fun t => by
  rw [bigSep_W3, bigSep_W3, show defs₀ (F := F) .tc cfg3.body (cfg3.bodyArgs t (cfg3.slots t)) = bodyAt3 t from by unfold defs₀; rw [Defs.onTc_tc]]
  exact triple_restated (sound W c t) rfl .rfl fun _ => .rfl

theorem hin (c : Dev nD) : iprop(Pipeline.scopedRest spec3 c ∗ (∃ r, prngReg c r)) ⊢ (dat W c).Φ 0 := by
  rw [scopedRest3_split, Φ_eq]
  simp only [owns_whole]
  iintro ⟨⟨⟨%f0, S0⟩, Hr⟩, Hg⟩
  isplitl [S0]
  · iexists f0; isplitr
    · ipureintro; intro h; exact absurd rfl h
    iexact S0
  isplitl [Hr]; · iexact Hr
  iexact Hg

theorem hout (c : Dev nD) : (dat W c).Φ (Fin.last cfg3.N) ⊢ iprop(Pipeline.scopedRest spec3 c ∗ (∃ r, prngReg c r)) := by
  rw [scopedRest3_split, Φ_eq]
  simp only [owns_whole]
  iintro ⟨⟨%s0, -, S0⟩, Hr, Hg⟩
  isplitl [S0 Hr]
  · isplitl [S0]
    · iexists _; iexact S0
    iexact Hr
  iexact Hg

end Cert.KernelIdeal.R3

end
-- ==== Proof.R4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

/-!
# The region of `_da_body`

Eight steps per output block accumulate `xhᵀ h`; the last stores half the accumulator in the output block.
-/

@[expose] public section

set_option maxRecDepth 16384

noncomputable section

namespace Cert.KernelIdeal.R4

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a point's coordinates. -/
abbrev first (i : grid4.Coords) : Prop := (Scalar.cmpi .ne (Scalar.extui (Scalar.cmpi .eq (BitVec.ofNat 32 (i 1).val) 0#32)) 0#32) = 1#1
/-- It holds at the first step of a run of 8. -/
theorem first_iff (t : Fin cfg4.N) : first (grid4.coords t) ↔ t.val % 8 = 0 := by
  have e2 : (grid4.coords t 1).val = t.val / 1 % 8 := Pipeline.Grid.coords_val t 1 (by decide) rfl
  simp only [first, e2]
  word_cmp
/-- The second branch's condition holds at the last step. -/
theorem last_iff (t : Fin cfg4.N) : k4_cond2 (grid4.coords t) = 1#1 ↔ t.val % 8 = 7 := by
  have e2 : (grid4.coords t 1).val = t.val / 1 % 8 := Pipeline.Grid.coords_val t 1 (by decide) rfl
  simp only [k4_cond2, e2]
  word_cmp

/-- Equal arguments give equal values. -/
theorem cong1 {T0 R : Type} (f : T0 → R) {a0 b0} (h0 : a0 = b0) :
    f a0 = f b0 := by
  subst h0; rfl

/-- Equal arguments give equal values. -/
theorem cong3 {T0 T1 T2 R : Type} (f : T0 → T1 → T2 → R) {a0 b0 a1 b1 a2 b2} (h0 : a0 = b0) (h1 : a1 = b1) (h2 : a2 = b2) :
    f a0 a1 a2 = f b0 b1 b2 := by
  subst h0 h1 h2; rfl

open Classical in
/-- What a point leaves in the accumulator: one more product added to it, from zero at the first step. -/
def step0 (i : grid4.Coords) (x0 : Vec F S1024x1024 .bf16) (x1 : Vec F S1024x96 .bf16) (s : Vec F S1024x96 .f32) : Vec F S1024x96 .f32 :=
  k4_pay2 (if first i then k4_pay1 else s) x0 x1

set_option maxHeartbeats 1000000 in
/-- The body at any point, run: the inputs stay, each accumulator takes its step, and at the last step of a run the outputs are stored. -/
theorem run (c : Dev nD) (i : grid4.Coords) (arg2 : Memref sig .tc .vmem S1024x1024 .bf16) (harg2 : arg2.IsWhole) (arg3 : Memref sig .tc .vmem S1024x96 .bf16) (harg3 : arg3.IsWhole) (arg4 : Memref sig .tc .vmem S1024x96 .bf16) (harg4 : arg4.IsWhole) (arg5 : Memref sig .tc .vmem S1024x96 .f32) (harg5 : arg5.IsWhole)
    (x0 : Vec F S1024x1024 .bf16) (x1 : Vec F S1024x96 .bf16) (o0 : Vec F S1024x96 .bf16) (s0 : Vec F S1024x96 .f32) (E : Set ℕ) (K : PUnit → sProp 𝕄) :
    iprop(owns (c : Thread nD τ) arg2 fullShare x0 ∗ owns (c : Thread nD τ) arg3 fullShare x1 ∗ owns (c : Thread nD τ) arg4 fullShare o0 ∗ owns (c : Thread nD τ) arg5 fullShare s0
      ∗ (iprop(owns (c : Thread nD τ) arg2 fullShare x0 ∗ owns (c : Thread nD τ) arg3 fullShare x1 ∗ owns (c : Thread nD τ) arg4 fullShare (open Classical in if k4_cond2 i = 1#1 then k4_pay3 (step0 i x0 x1 s0) else o0) ∗ owns (c : Thread nD τ) arg5 fullShare (step0 i x0 x1 s0)) -∗ K ⟨⟩))
    ⊢ wp frame (wpE (defs₀ (F := F)) Variants.none c none) E (cc4__da_body i arg2 harg2 arg3 harg3 arg4 harg4 arg5 harg5) K := by
  simp only [cc4__da_body_eq_skeleton]; unfold cc4__da_body_skel
  unfold owns step0
  iintro ⟨⟨%f0, %hf0, H0⟩, ⟨%f1, %hf1, H1⟩, ⟨%g0, %hg0, O0⟩, ⟨%fs0, %hfs0, S0⟩, Hk⟩
  obtain rfl := harg2.eq_unread hf0; obtain rfl := harg3.eq_unread hf1; obtain rfl := harg4.eq_unread hg0; obtain rfl := harg5.eq_unread hfs0
  by_cases hc0 : first i <;> by_cases hc1 : k4_cond2 i = 1#1
  all_goals
    repeat first | rw [if_pos hc0] | rw [if_neg hc0] | rw [if_pos hc1] | rw [if_neg hc1]
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [O0]
    · iexists _; isplitr; swap; · iexact O0
      ipureintro
      first
        | (guard_hyp hc1 : ¬ k4_cond2 i = 1#1; exact harg4.read_unread _)
        | (guard_hyp hc0 : first i; exact (View.read_writes_full _ _ _ _ _).trans (cong1 _ ((View.readCov_full _ _ _ _ _).trans (cong3 _ (View.readCov_full _ _ _ _ _) ((View.readAt_full _ _ _).trans hf0) ((View.readAt_full _ _ _).trans hf1)))))
        | exact (View.read_writes_full _ _ _ _ _).trans (cong1 _ ((View.readCov_full _ _ _ _ _).trans (cong3 _ ((View.readAt_full _ _ _).trans hfs0) ((View.readAt_full _ _ _).trans hf0) ((View.readAt_full _ _ _).trans hf1))))
    iexists _; isplitr; swap; · iexact S0
    ipureintro
    first
      | (guard_hyp hc0 : first i; exact (View.read_writes_full _ _ _ _ _).trans (cong3 _ (View.readCov_full _ _ _ _ _) ((View.readAt_full _ _ _).trans hf0) ((View.readAt_full _ _ _).trans hf1)))
      | exact (View.read_writes_full _ _ _ _ _).trans (cong3 _ ((View.readAt_full _ _ _).trans hfs0) ((View.readAt_full _ _ _).trans hf0) ((View.readAt_full _ _ _).trans hf1))

/-! ## The region's proof data -/

variable (W : Dev nD → Valuation τ sig (Elt F))

/-- Window `w`'s block at point `t`, read off its array as the region finds it. -/
def iblk (c : Dev nD) (w : Fin cfg4.W) (t : Fin cfg4.N) : ((cfg4.win w).xblock (cfg4.grid.coords t)).Idx → Elt F (cfg4.win w).elt :=
  ((cfg4.win w).blk t).view.read (Elt F) (W c (Proc.devRef .tc (Pipeline.arrRef spec4 w)))

/-- What accumulator 0 holds before point `n` (at the first point: anything). -/
def acc0 (c : Dev nD) : ℕ → Vec F S1024x96 .f32
  | 0 => k4_pay1
  | n + 1 => if h : n < cfg4.N then step0 (grid4.coords ⟨n, h⟩) (iblk W c 0 ⟨n, h⟩) (iblk W c 1 ⟨n, h⟩) (acc0 c n) else acc0 c n

theorem acc0_succ (c : Dev nD) (t : Fin cfg4.N) (s : Vec F S1024x96 .f32) (hs : t.val ≠ 0 → s = acc0 W c t.val) :
    acc0 W c (t.val + 1) = step0 (grid4.coords t) (iblk W c 0 t) (iblk W c 1 t) s := by
  obtain ⟨n, hn⟩ := t
  refine (dif_pos hn).trans ?_
  by_cases h : n = 0
  · unfold step0
    rw [if_pos ((first_iff ⟨n, hn⟩).mpr (by show n % 8 = 0; omega)), if_pos ((first_iff ⟨n, hn⟩).mpr (by show n % 8 = 0; omega))]
  · rw [hs h]

/-- The region's proof data: the arrays as found; after a point each input's buffer at its block, each output's at its value of the
    accumulators; the accumulators at their running contents. -/
def dat (c : Dev nD) : Dat τ (Elt F) Unit ℕ (UR sig nD τ) ℕ cfg4 c where
  A w := W c (Proc.devRef .tc (Pipeline.arrRef spec4 w))
  after w t := match w with
    | ⟨0, _⟩ => iblk W c 0 t
    | ⟨1, _⟩ => iblk W c 1 t
    | ⟨2, _⟩ => k4_pay3 (acc0 W c (t.val + 1))
  Φ t := iprop((∃ s, ⌜t.val ≠ 0 → s = acc0 W c t.val⌝ ∗ owns (c : Thread nD τ) (Memref.whole cc4_scratch0) fullShare s) ∗ Pipeline.scopedRestBut spec4 c [cc4_scratch0] ∗ (∃ r, prngReg c r))
  q _ := fullShare
  owed _ := 0

theorem A_eq (c : Dev nD) (w : Fin cfg4.W) : (dat W c).A w = W c (Proc.devRef .tc (Pipeline.arrRef spec4 w)) := by dsimp only [dat]
theorem Φ_eq (c : Dev nD) (t : Fin (cfg4.N + 1)) : (dat W c).Φ t = iprop((∃ s, ⌜t.val ≠ 0 → s = acc0 W c t.val⌝ ∗ owns (c : Thread nD τ) (Memref.whole cc4_scratch0) fullShare s) ∗ Pipeline.scopedRestBut spec4 c [cc4_scratch0] ∗ (∃ r, prngReg c r)) := by dsimp only [dat]
theorem after_0 (c : Dev nD) (t : Fin cfg4.N) : (dat W c).after 0 t = iblk W c 0 t := by dsimp only [dat]
theorem after_1 (c : Dev nD) (t : Fin cfg4.N) : (dat W c).after 1 t = iblk W c 1 t := by dsimp only [dat]
theorem after_2 (c : Dev nD) (t : Fin cfg4.N) : (dat W c).after 2 t = k4_pay3 (acc0 W c (t.val + 1)) := by dsimp only [dat]
theorem before_0 (c : Dev nD) (t : Fin cfg4.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem leaves_0 (c : Dev nD) (t : Fin cfg4.N) : (dat W c).leavesExact 0 t = owns (c : Thread nD τ) (st4_0 t) fullShare (iblk W c 0 t) := by
  unfold Dat.leavesExact; rw [show cfg4.idle 0 (grid4.coords t) = false from rfl, after_0]
theorem before_1 (c : Dev nD) (t : Fin cfg4.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem leaves_1 (c : Dev nD) (t : Fin cfg4.N) : (dat W c).leavesExact 1 t = owns (c : Thread nD τ) (st4_1 t) fullShare (iblk W c 1 t) := by
  unfold Dat.leavesExact; rw [show cfg4.idle 1 (grid4.coords t) = false from rfl, after_1]

/-- Output 0 is idle, and not written back, where the second branch is not taken. -/
theorem idle_2 (t : Fin cfg4.N) (h : ¬ k4_cond2 (grid4.coords t) = 1#1) : cfg4.idle 2 (grid4.coords t) = true := by
  show (!(k4_cond2 (grid4.coords t) == 1#1)) = true
  simp [h]
theorem live_2 (t : Fin cfg4.N) (h : k4_cond2 (grid4.coords t) = 1#1) : cfg4.idle 2 (grid4.coords t) = false := by
  show (!(k4_cond2 (grid4.coords t) == 1#1)) = false
  simp [h]
theorem noFlush_2 (t : Fin cfg4.N) (h : ¬ k4_cond2 (grid4.coords t) = 1#1) : (cfg4.win 2).flush t = false := by
  cases hf : (cfg4.win 2).flush t
  · rfl
  · exact absurd ((last_iff t).mpr ((flush4_2 t).mp hf)) h

/-- The body at any point takes the invariant and the buffers from one point to the next. -/
theorem sound (c : Dev nD) (t : Fin cfg4.N) :
    iprop((dat W c).Φ t.castSucc ∗ (dat W c).owesAt () t.castSucc
      ∗ (∃ d, owns (c : Thread nD τ) (st4_0 t) fullShare ((dat W c).before 0 t d)) ∗ (∃ d, owns (c : Thread nD τ) (st4_1 t) fullShare ((dat W c).before 1 t d)) ∗ (∃ d, owns (c : Thread nD τ) (st4_2 t) fullShare ((dat W c).before 2 t d)))
    ⊢ wp frame (wpE (defs₀ (F := F)) Variants.none c none) Set.univ (bodyAt4 t)
      (fun _ => iprop((dat W c).Φ t.succ ∗ (dat W c).owesAt () t.succ
        ∗ (dat W c).leavesExact 0 t ∗ (dat W c).leavesExact 1 t ∗ (dat W c).leavesExact 2 t)) := by
  unfold bodyAt4
  simp only [before_0, before_1]
  rw [show (dat W c).owesAt () t.succ = (dat W c).owesAt () t.castSucc from rfl, leaves_0, leaves_1, Φ_eq, Φ_eq]
  simp only [Fin.val_castSucc, Fin.val_succ]
  iintro ⟨⟨⟨%s0, %hs0, S0⟩, Hr, Hg⟩, Ho, ⟨%d0, H0⟩, ⟨%d1, H1⟩, ⟨%d2, H2⟩⟩
  iapply (run c (grid4.coords t) _ _ _ _ _ _ _ (Memref.isWhole_whole _) (iblk W c 0 t) (iblk W c 1 t) _ s0 Set.univ _)
  isplitl [H0]; · iexact H0
  isplitl [H1]; · iexact H1
  isplitl [H2]; · iexact H2
  isplitl [S0]; · iexact S0
  iintro ⟨H0, H1, H2, S0⟩
  isplitl [S0 Hr Hg]
  · skip
    isplitl [S0]
    · iexists _; isplitr; swap; · iexact S0
      ipureintro; intro _; exact (acc0_succ W c t s0 hs0).symm
    isplitl [Hr]; · iexact Hr
    iexact Hg
  isplitl [Ho]; · iexact Ho
  isplitl [H0]; · iexact H0
  isplitl [H1]; · iexact H1
  by_cases h : k4_cond2 (grid4.coords t) = 1#1
  · rw [if_pos h, ← acc0_succ W c t s0 hs0,
      show (dat W c).leavesExact 2 t = owns (c : Thread nD τ) (st4_2 t) fullShare (k4_pay3 (acc0 W c (t.val + 1))) from by
      unfold Dat.leavesExact; rw [live_2 t h, after_2]]
    iexact H2
  · rw [if_neg h, Dat.leavesExact_idle (dat W c) 2 t (idle_2 t h) (noFlush_2 t h)]
    iexists _; iexact H2

/-- The library's body obligation, at every point. -/
theorem body (c : Dev nD) : BodyObligation (dat W c) (defs₀ (F := F)) Variants.none () Set.univ := fun t => by
  rw [bigSep_W4, bigSep_W4, show defs₀ (F := F) .tc cfg4.body (cfg4.bodyArgs t (cfg4.slots t)) = bodyAt4 t from by unfold defs₀; rw [Defs.onTc_tc]]
  exact triple_restated (sound W c t) rfl .rfl fun _ => .rfl

theorem hin (c : Dev nD) : iprop(Pipeline.scopedRest spec4 c ∗ (∃ r, prngReg c r)) ⊢ (dat W c).Φ 0 := by
  rw [scopedRest4_split, Φ_eq]
  simp only [owns_whole]
  iintro ⟨⟨⟨%f0, S0⟩, Hr⟩, Hg⟩
  isplitl [S0]
  · iexists f0; isplitr
    · ipureintro; intro h; exact absurd rfl h
    iexact S0
  isplitl [Hr]; · iexact Hr
  iexact Hg

theorem hout (c : Dev nD) : (dat W c).Φ (Fin.last cfg4.N) ⊢ iprop(Pipeline.scopedRest spec4 c ∗ (∃ r, prngReg c r)) := by
  rw [scopedRest4_split, Φ_eq]
  simp only [owns_whole]
  iintro ⟨⟨%s0, -, S0⟩, Hr, Hg⟩
  isplitl [S0 Hr]
  · isplitl [S0]
    · iexists _; iexact S0
    iexact Hr
  iexact Hg

end Cert.KernelIdeal.R4

end
-- ==== Proof.R5.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Pipeline.ValueKit

/-!
# The region of `_dm_body`

Sixteen steps per output block accumulate the partial sums of `dy * (xh v)` and `xaᵀ (dy * g)`; the last stores the two outputs.
-/

@[expose] public section

set_option maxRecDepth 16384

noncomputable section

namespace Cert.KernelIdeal.R5

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch's condition at a point's coordinates. -/
abbrev first (i : grid5.Coords) : Prop := (Scalar.cmpi .ne (Scalar.extui (Scalar.cmpi .eq (BitVec.ofNat 32 (i 1).val) 0#32)) 0#32) = 1#1
/-- It holds at the first step of a run of 16. -/
theorem first_iff (t : Fin cfg5.N) : first (grid5.coords t) ↔ t.val % 16 = 0 := by
  have e2 : (grid5.coords t 1).val = t.val / 1 % 16 := Pipeline.Grid.coords_val t 1 (by decide) rfl
  simp only [first, e2]
  word_cmp
/-- The second branch's condition holds at the last step. -/
theorem last_iff (t : Fin cfg5.N) : k5_cond2 (grid5.coords t) = 1#1 ↔ t.val % 16 = 15 := by
  have e2 : (grid5.coords t 1).val = t.val / 1 % 16 := Pipeline.Grid.coords_val t 1 (by decide) rfl
  simp only [k5_cond2, e2]
  word_cmp

/-- Equal arguments give equal values. -/
theorem cong1 {T0 R : Type} (f : T0 → R) {a0 b0} (h0 : a0 = b0) :
    f a0 = f b0 := by
  subst h0; rfl

/-- Equal arguments give equal values. -/
theorem cong2 {T0 T1 R : Type} (f : T0 → T1 → R) {a0 b0 a1 b1} (h0 : a0 = b0) (h1 : a1 = b1) :
    f a0 a1 = f b0 b1 := by
  subst h0 h1; rfl

/-- Equal arguments give equal values. -/
theorem cong4 {T0 T1 T2 T3 R : Type} (f : T0 → T1 → T2 → T3 → R) {a0 b0 a1 b1 a2 b2 a3 b3} (h0 : a0 = b0) (h1 : a1 = b1) (h2 : a2 = b2) (h3 : a3 = b3) :
    f a0 a1 a2 a3 = f b0 b1 b2 b3 := by
  subst h0 h1 h2 h3; rfl

open Classical in
/-- What a point leaves in the first accumulator: the eight partial sums over the rows of `dy * (xh v)`, added to it, from zero at the first step. -/
def step0 (i : grid5.Coords) (x0 : Vec F S512x1024 .bf16) (x1 : Vec F S1x1024 .f32) (x2 : Vec F S1x1024 .f32) (x3 : Vec F S512x7168 .bf16) (x4 : Vec F S7168x1024 .bf16) (x5 : Vec F S512x96 .bf16) (s : Vec F S8x1024 .f32) : Vec F S8x1024 .f32 :=
  k5_pay6 x3 x4 x0 (if first i then k5_pay3 else s)

open Classical in
/-- What a point leaves in the second accumulator: `xaᵀ (dy * g)` added to it, from zero at the first step. -/
def step1 (i : grid5.Coords) (x0 : Vec F S512x1024 .bf16) (x1 : Vec F S1x1024 .f32) (x2 : Vec F S1x1024 .f32) (x3 : Vec F S512x7168 .bf16) (x4 : Vec F S7168x1024 .bf16) (x5 : Vec F S512x96 .bf16) (s : Vec F S96x1024 .f32) : Vec F S96x1024 .f32 :=
  k5_pay7 x0 x1 (if first i then k5_pay4 else s) x5

set_option maxHeartbeats 1000000 in
/-- The body at any point, run: the inputs stay, each accumulator takes its step, and at the last step of a run the outputs are stored. -/
theorem run (c : Dev nD) (i : grid5.Coords) (arg2 : Memref sig .tc .vmem S512x1024 .bf16) (harg2 : arg2.IsWhole) (arg3 : Memref sig .tc .vmem S1x1024 .f32) (harg3 : arg3.IsWhole) (arg4 : Memref sig .tc .vmem S1x1024 .f32) (harg4 : arg4.IsWhole) (arg5 : Memref sig .tc .vmem S512x7168 .bf16) (harg5 : arg5.IsWhole) (arg6 : Memref sig .tc .vmem S7168x1024 .bf16) (harg6 : arg6.IsWhole) (arg7 : Memref sig .tc .vmem S512x96 .bf16) (harg7 : arg7.IsWhole) (arg8 : Memref sig .tc .vmem S1x1024 .f32) (harg8 : arg8.IsWhole) (arg9 : Memref sig .tc .vmem S96x1024 .bf16) (harg9 : arg9.IsWhole) (arg10 : Memref sig .tc .vmem S8x1024 .f32) (harg10 : arg10.IsWhole) (arg11 : Memref sig .tc .vmem S96x1024 .f32) (harg11 : arg11.IsWhole)
    (x0 : Vec F S512x1024 .bf16) (x1 : Vec F S1x1024 .f32) (x2 : Vec F S1x1024 .f32) (x3 : Vec F S512x7168 .bf16) (x4 : Vec F S7168x1024 .bf16) (x5 : Vec F S512x96 .bf16) (o0 : Vec F S1x1024 .f32) (o1 : Vec F S96x1024 .bf16) (s0 : Vec F S8x1024 .f32) (s1 : Vec F S96x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o0 ∗ owns (c : Thread nD τ) arg9 fullShare o1 ∗ owns (c : Thread nD τ) arg10 fullShare s0 ∗ owns (c : Thread nD τ) arg11 fullShare s1
      ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (open Classical in if k5_cond2 i = 1#1 then k5_pay1 x2 (step0 i x0 x1 x2 x3 x4 x5 s0) else o0) ∗ owns (c : Thread nD τ) arg9 fullShare (open Classical in if k5_cond2 i = 1#1 then k5_pay2 (step1 i x0 x1 x2 x3 x4 x5 s1) else o1) ∗ owns (c : Thread nD τ) arg10 fullShare (step0 i x0 x1 x2 x3 x4 x5 s0) ∗ owns (c : Thread nD τ) arg11 fullShare (step1 i x0 x1 x2 x3 x4 x5 s1)) -∗ K ⟨⟩))
    ⊢ wp frame (wpE (defs₀ (F := F)) Variants.none c none) E (cc5__dm_body i arg2 harg2 arg3 harg3 arg4 harg4 arg5 harg5 arg6 harg6 arg7 harg7 arg8 harg8 arg9 harg9 arg10 harg10 arg11 harg11) K := by
  simp only [cc5__dm_body_eq_skeleton]; unfold cc5__dm_body_skel
  simp only [k5_part1_eq_skeleton]; unfold k5_part1_skel
  unfold owns step0 step1
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%g0, %hg0, O0⟩, ⟨%g1, %hg1, O1⟩, ⟨%fs0, %hfs0, S0⟩, ⟨%fs1, %hfs1, S1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hg0; obtain rfl := harg9.eq_unread hg1; obtain rfl := harg10.eq_unread hfs0; obtain rfl := harg11.eq_unread hfs1
  by_cases hc0 : first i <;> by_cases hc1 : k5_cond2 i = 1#1
  all_goals
    repeat first | rw [if_pos hc0] | rw [if_neg hc0] | rw [if_pos hc1] | rw [if_neg hc1]
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [O0]
    · iexists _; isplitr; swap; · iexact O0
      ipureintro
      first
        | (guard_hyp hc1 : ¬ k5_cond2 i = 1#1; exact harg8.read_unread _)
        | (guard_hyp hc0 : first i; exact (View.read_writes_full _ _ _ _ _).trans (cong2 _ ((View.readAt_full _ _ _).trans hf2) ((View.readCov_full _ _ _ _ _).trans (cong4 _ ((View.readAt_full _ _ _).trans hf3) ((View.readAt_full _ _ _).trans hf4) ((View.readAt_full _ _ _).trans hf0) (View.readCov_full _ _ _ _ _)))))
        | exact (View.read_writes_full _ _ _ _ _).trans (cong2 _ ((View.readAt_full _ _ _).trans hf2) ((View.readCov_full _ _ _ _ _).trans (cong4 _ ((View.readAt_full _ _ _).trans hf3) ((View.readAt_full _ _ _).trans hf4) ((View.readAt_full _ _ _).trans hf0) ((View.readAt_full _ _ _).trans hfs0))))
    isplitl [O1]
    · iexists _; isplitr; swap; · iexact O1
      ipureintro
      first
        | (guard_hyp hc1 : ¬ k5_cond2 i = 1#1; exact harg9.read_unread _)
        | (guard_hyp hc0 : first i; exact (View.read_writes_full _ _ _ _ _).trans (cong1 _ ((View.readCov_full _ _ _ _ _).trans (cong4 _ ((View.readAt_full _ _ _).trans hf0) ((View.readAt_full _ _ _).trans hf1) (View.readCov_full _ _ _ _ _) ((View.readAt_full _ _ _).trans hf5)))))
        | exact (View.read_writes_full _ _ _ _ _).trans (cong1 _ ((View.readCov_full _ _ _ _ _).trans (cong4 _ ((View.readAt_full _ _ _).trans hf0) ((View.readAt_full _ _ _).trans hf1) ((View.readAt_full _ _ _).trans hfs1) ((View.readAt_full _ _ _).trans hf5))))
    isplitl [S0]
    · iexists _; isplitr; swap; · iexact S0
      ipureintro
      first
        | (guard_hyp hc0 : first i; exact (View.read_writes_full _ _ _ _ _).trans (cong4 _ ((View.readAt_full _ _ _).trans hf3) ((View.readAt_full _ _ _).trans hf4) ((View.readAt_full _ _ _).trans hf0) (View.readCov_full _ _ _ _ _)))
        | exact (View.read_writes_full _ _ _ _ _).trans (cong4 _ ((View.readAt_full _ _ _).trans hf3) ((View.readAt_full _ _ _).trans hf4) ((View.readAt_full _ _ _).trans hf0) ((View.readAt_full _ _ _).trans hfs0))
    iexists _; isplitr; swap; · iexact S1
    ipureintro
    first
      | (guard_hyp hc0 : first i; exact (View.read_writes_full _ _ _ _ _).trans (cong4 _ ((View.readAt_full _ _ _).trans hf0) ((View.readAt_full _ _ _).trans hf1) (View.readCov_full _ _ _ _ _) ((View.readAt_full _ _ _).trans hf5)))
      | exact (View.read_writes_full _ _ _ _ _).trans (cong4 _ ((View.readAt_full _ _ _).trans hf0) ((View.readAt_full _ _ _).trans hf1) ((View.readAt_full _ _ _).trans hfs1) ((View.readAt_full _ _ _).trans hf5))

/-! ## The region's proof data -/

variable (W : Dev nD → Valuation τ sig (Elt F))

/-- Window `w`'s block at point `t`, read off its array as the region finds it. -/
def iblk (c : Dev nD) (w : Fin cfg5.W) (t : Fin cfg5.N) : ((cfg5.win w).xblock (cfg5.grid.coords t)).Idx → Elt F (cfg5.win w).elt :=
  ((cfg5.win w).blk t).view.read (Elt F) (W c (Proc.devRef .tc (Pipeline.arrRef spec5 w)))

/-- What accumulator 0 holds before point `n` (at the first point: anything). -/
def acc0 (c : Dev nD) : ℕ → Vec F S8x1024 .f32
  | 0 => k5_pay3
  | n + 1 => if h : n < cfg5.N then step0 (grid5.coords ⟨n, h⟩) (iblk W c 0 ⟨n, h⟩) (iblk W c 1 ⟨n, h⟩) (iblk W c 2 ⟨n, h⟩) (iblk W c 3 ⟨n, h⟩) (iblk W c 4 ⟨n, h⟩) (iblk W c 5 ⟨n, h⟩) (acc0 c n) else acc0 c n

theorem acc0_succ (c : Dev nD) (t : Fin cfg5.N) (s : Vec F S8x1024 .f32) (hs : t.val ≠ 0 → s = acc0 W c t.val) :
    acc0 W c (t.val + 1) = step0 (grid5.coords t) (iblk W c 0 t) (iblk W c 1 t) (iblk W c 2 t) (iblk W c 3 t) (iblk W c 4 t) (iblk W c 5 t) s := by
  obtain ⟨n, hn⟩ := t
  refine (dif_pos hn).trans ?_
  by_cases h : n = 0
  · unfold step0
    rw [if_pos ((first_iff ⟨n, hn⟩).mpr (by show n % 16 = 0; omega)), if_pos ((first_iff ⟨n, hn⟩).mpr (by show n % 16 = 0; omega))]
  · rw [hs h]

/-- What accumulator 1 holds before point `n` (at the first point: anything). -/
def acc1 (c : Dev nD) : ℕ → Vec F S96x1024 .f32
  | 0 => k5_pay4
  | n + 1 => if h : n < cfg5.N then step1 (grid5.coords ⟨n, h⟩) (iblk W c 0 ⟨n, h⟩) (iblk W c 1 ⟨n, h⟩) (iblk W c 2 ⟨n, h⟩) (iblk W c 3 ⟨n, h⟩) (iblk W c 4 ⟨n, h⟩) (iblk W c 5 ⟨n, h⟩) (acc1 c n) else acc1 c n

theorem acc1_succ (c : Dev nD) (t : Fin cfg5.N) (s : Vec F S96x1024 .f32) (hs : t.val ≠ 0 → s = acc1 W c t.val) :
    acc1 W c (t.val + 1) = step1 (grid5.coords t) (iblk W c 0 t) (iblk W c 1 t) (iblk W c 2 t) (iblk W c 3 t) (iblk W c 4 t) (iblk W c 5 t) s := by
  obtain ⟨n, hn⟩ := t
  refine (dif_pos hn).trans ?_
  by_cases h : n = 0
  · unfold step1
    rw [if_pos ((first_iff ⟨n, hn⟩).mpr (by show n % 16 = 0; omega)), if_pos ((first_iff ⟨n, hn⟩).mpr (by show n % 16 = 0; omega))]
  · rw [hs h]

/-- The region's proof data: the arrays as found; after a point each input's buffer at its block, each output's at its value of the
    accumulators; the accumulators at their running contents. -/
def dat (c : Dev nD) : Dat τ (Elt F) Unit ℕ (UR sig nD τ) ℕ cfg5 c where
  A w := W c (Proc.devRef .tc (Pipeline.arrRef spec5 w))
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => k5_pay1 (iblk W c 2 t) (acc0 W c (t.val + 1))
    | ⟨7, _⟩ => k5_pay2 (acc1 W c (t.val + 1))
  Φ t := iprop((∃ s, ⌜t.val ≠ 0 → s = acc0 W c t.val⌝ ∗ owns (c : Thread nD τ) (Memref.whole cc5_scratch0) fullShare s) ∗ (∃ s, ⌜t.val ≠ 0 → s = acc1 W c t.val⌝ ∗ owns (c : Thread nD τ) (Memref.whole cc5_scratch1) fullShare s) ∗ Pipeline.scopedRestBut spec5 c [cc5_scratch0, cc5_scratch1] ∗ (∃ r, prngReg c r))
  q _ := fullShare
  owed _ := 0

theorem A_eq (c : Dev nD) (w : Fin cfg5.W) : (dat W c).A w = W c (Proc.devRef .tc (Pipeline.arrRef spec5 w)) := by dsimp only [dat]
theorem Φ_eq (c : Dev nD) (t : Fin (cfg5.N + 1)) : (dat W c).Φ t = iprop((∃ s, ⌜t.val ≠ 0 → s = acc0 W c t.val⌝ ∗ owns (c : Thread nD τ) (Memref.whole cc5_scratch0) fullShare s) ∗ (∃ s, ⌜t.val ≠ 0 → s = acc1 W c t.val⌝ ∗ owns (c : Thread nD τ) (Memref.whole cc5_scratch1) fullShare s) ∗ Pipeline.scopedRestBut spec5 c [cc5_scratch0, cc5_scratch1] ∗ (∃ r, prngReg c r)) := by dsimp only [dat]
theorem after_0 (c : Dev nD) (t : Fin cfg5.N) : (dat W c).after 0 t = iblk W c 0 t := by dsimp only [dat]
theorem after_1 (c : Dev nD) (t : Fin cfg5.N) : (dat W c).after 1 t = iblk W c 1 t := by dsimp only [dat]
theorem after_2 (c : Dev nD) (t : Fin cfg5.N) : (dat W c).after 2 t = iblk W c 2 t := by dsimp only [dat]
theorem after_3 (c : Dev nD) (t : Fin cfg5.N) : (dat W c).after 3 t = iblk W c 3 t := by dsimp only [dat]
theorem after_4 (c : Dev nD) (t : Fin cfg5.N) : (dat W c).after 4 t = iblk W c 4 t := by dsimp only [dat]
theorem after_5 (c : Dev nD) (t : Fin cfg5.N) : (dat W c).after 5 t = iblk W c 5 t := by dsimp only [dat]
theorem after_6 (c : Dev nD) (t : Fin cfg5.N) : (dat W c).after 6 t = k5_pay1 (iblk W c 2 t) (acc0 W c (t.val + 1)) := by dsimp only [dat]
theorem after_7 (c : Dev nD) (t : Fin cfg5.N) : (dat W c).after 7 t = k5_pay2 (acc1 W c (t.val + 1)) := by dsimp only [dat]
theorem before_0 (c : Dev nD) (t : Fin cfg5.N) (d) : (dat W c).before 0 t d = iblk W c 0 t :=
  ((dat W c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem leaves_0 (c : Dev nD) (t : Fin cfg5.N) : (dat W c).leavesExact 0 t = owns (c : Thread nD τ) (st5_0 t) fullShare (iblk W c 0 t) := by
  unfold Dat.leavesExact; rw [show cfg5.idle 0 (grid5.coords t) = false from rfl, after_0]
theorem before_1 (c : Dev nD) (t : Fin cfg5.N) (d) : (dat W c).before 1 t d = iblk W c 1 t :=
  ((dat W c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem leaves_1 (c : Dev nD) (t : Fin cfg5.N) : (dat W c).leavesExact 1 t = owns (c : Thread nD τ) (st5_1 t) fullShare (iblk W c 1 t) := by
  unfold Dat.leavesExact; rw [show cfg5.idle 1 (grid5.coords t) = false from rfl, after_1]
theorem before_2 (c : Dev nD) (t : Fin cfg5.N) (d) : (dat W c).before 2 t d = iblk W c 2 t :=
  ((dat W c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem leaves_2 (c : Dev nD) (t : Fin cfg5.N) : (dat W c).leavesExact 2 t = owns (c : Thread nD τ) (st5_2 t) fullShare (iblk W c 2 t) := by
  unfold Dat.leavesExact; rw [show cfg5.idle 2 (grid5.coords t) = false from rfl, after_2]
theorem before_3 (c : Dev nD) (t : Fin cfg5.N) (d) : (dat W c).before 3 t d = iblk W c 3 t :=
  ((dat W c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem leaves_3 (c : Dev nD) (t : Fin cfg5.N) : (dat W c).leavesExact 3 t = owns (c : Thread nD τ) (st5_3 t) fullShare (iblk W c 3 t) := by
  unfold Dat.leavesExact; rw [show cfg5.idle 3 (grid5.coords t) = false from rfl, after_3]
theorem before_4 (c : Dev nD) (t : Fin cfg5.N) (d) : (dat W c).before 4 t d = iblk W c 4 t :=
  ((dat W c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem leaves_4 (c : Dev nD) (t : Fin cfg5.N) : (dat W c).leavesExact 4 t = owns (c : Thread nD τ) (st5_4 t) fullShare (iblk W c 4 t) := by
  unfold Dat.leavesExact; rw [show cfg5.idle 4 (grid5.coords t) = false from rfl, after_4]
theorem before_5 (c : Dev nD) (t : Fin cfg5.N) (d) : (dat W c).before 5 t d = iblk W c 5 t :=
  ((dat W c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem leaves_5 (c : Dev nD) (t : Fin cfg5.N) : (dat W c).leavesExact 5 t = owns (c : Thread nD τ) (st5_5 t) fullShare (iblk W c 5 t) := by
  unfold Dat.leavesExact; rw [show cfg5.idle 5 (grid5.coords t) = false from rfl, after_5]

/-- Output 0 is idle, and not written back, where the second branch is not taken. -/
theorem idle_6 (t : Fin cfg5.N) (h : ¬ k5_cond2 (grid5.coords t) = 1#1) : cfg5.idle 6 (grid5.coords t) = true := by
  show (!(k5_cond2 (grid5.coords t) == 1#1)) = true
  simp [h]
theorem live_6 (t : Fin cfg5.N) (h : k5_cond2 (grid5.coords t) = 1#1) : cfg5.idle 6 (grid5.coords t) = false := by
  show (!(k5_cond2 (grid5.coords t) == 1#1)) = false
  simp [h]
theorem noFlush_6 (t : Fin cfg5.N) (h : ¬ k5_cond2 (grid5.coords t) = 1#1) : (cfg5.win 6).flush t = false := by
  cases hf : (cfg5.win 6).flush t
  · rfl
  · exact absurd ((last_iff t).mpr ((flush5_6 t).mp hf)) h

/-- Output 1 is idle, and not written back, where the second branch is not taken. -/
theorem idle_7 (t : Fin cfg5.N) (h : ¬ k5_cond2 (grid5.coords t) = 1#1) : cfg5.idle 7 (grid5.coords t) = true := by
  show (!(k5_cond2 (grid5.coords t) == 1#1)) = true
  simp [h]
theorem live_7 (t : Fin cfg5.N) (h : k5_cond2 (grid5.coords t) = 1#1) : cfg5.idle 7 (grid5.coords t) = false := by
  show (!(k5_cond2 (grid5.coords t) == 1#1)) = false
  simp [h]
theorem noFlush_7 (t : Fin cfg5.N) (h : ¬ k5_cond2 (grid5.coords t) = 1#1) : (cfg5.win 7).flush t = false := by
  cases hf : (cfg5.win 7).flush t
  · rfl
  · exact absurd ((last_iff t).mpr ((flush5_7 t).mp hf)) h

/-- The body at any point takes the invariant and the buffers from one point to the next. -/
theorem sound (c : Dev nD) (t : Fin cfg5.N) :
    iprop((dat W c).Φ t.castSucc ∗ (dat W c).owesAt () t.castSucc
      ∗ (∃ d, owns (c : Thread nD τ) (st5_0 t) fullShare ((dat W c).before 0 t d)) ∗ (∃ d, owns (c : Thread nD τ) (st5_1 t) fullShare ((dat W c).before 1 t d)) ∗ (∃ d, owns (c : Thread nD τ) (st5_2 t) fullShare ((dat W c).before 2 t d)) ∗ (∃ d, owns (c : Thread nD τ) (st5_3 t) fullShare ((dat W c).before 3 t d)) ∗ (∃ d, owns (c : Thread nD τ) (st5_4 t) fullShare ((dat W c).before 4 t d)) ∗ (∃ d, owns (c : Thread nD τ) (st5_5 t) fullShare ((dat W c).before 5 t d)) ∗ (∃ d, owns (c : Thread nD τ) (st5_6 t) fullShare ((dat W c).before 6 t d)) ∗ (∃ d, owns (c : Thread nD τ) (st5_7 t) fullShare ((dat W c).before 7 t d)))
    ⊢ wp frame (wpE (defs₀ (F := F)) Variants.none c none) Set.univ (bodyAt5 t)
      (fun _ => iprop((dat W c).Φ t.succ ∗ (dat W c).owesAt () t.succ
        ∗ (dat W c).leavesExact 0 t ∗ (dat W c).leavesExact 1 t ∗ (dat W c).leavesExact 2 t ∗ (dat W c).leavesExact 3 t ∗ (dat W c).leavesExact 4 t ∗ (dat W c).leavesExact 5 t ∗ (dat W c).leavesExact 6 t ∗ (dat W c).leavesExact 7 t)) := by
  unfold bodyAt5
  simp only [before_0, before_1, before_2, before_3, before_4, before_5]
  rw [show (dat W c).owesAt () t.succ = (dat W c).owesAt () t.castSucc from rfl, leaves_0, leaves_1, leaves_2, leaves_3, leaves_4, leaves_5, Φ_eq, Φ_eq]
  simp only [Fin.val_castSucc, Fin.val_succ]
  iintro ⟨⟨⟨%s0, %hs0, S0⟩, ⟨%s1, %hs1, S1⟩, Hr, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run c (grid5.coords t) _ _ _ _ _ _ _ _ _ _ _ _ _ _ _ _ _ (Memref.isWhole_whole _) _ (Memref.isWhole_whole _) (iblk W c 0 t) (iblk W c 1 t) (iblk W c 2 t) (iblk W c 3 t) (iblk W c 4 t) (iblk W c 5 t) _ _ s0 s1 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  iintro ⟨H0, H1, H2, H3, H4, H5, H6, H7, S0, S1⟩
  isplitl [S0 S1 Hr Hg]
  · skip
    isplitl [S0]
    · iexists _; isplitr; swap; · iexact S0
      ipureintro; intro _; exact (acc0_succ W c t s0 hs0).symm
    isplitl [S1]
    · iexists _; isplitr; swap; · iexact S1
      ipureintro; intro _; exact (acc1_succ W c t s1 hs1).symm
    isplitl [Hr]; · iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  by_cases h : k5_cond2 (grid5.coords t) = 1#1
  · rw [if_pos h, if_pos h, ← acc0_succ W c t s0 hs0, ← acc1_succ W c t s1 hs1,
      show (dat W c).leavesExact 6 t = owns (c : Thread nD τ) (st5_6 t) fullShare (k5_pay1 (iblk W c 2 t) (acc0 W c (t.val + 1))) from by
      unfold Dat.leavesExact; rw [live_6 t h, after_6],
      show (dat W c).leavesExact 7 t = owns (c : Thread nD τ) (st5_7 t) fullShare (k5_pay2 (acc1 W c (t.val + 1))) from by
      unfold Dat.leavesExact; rw [live_7 t h, after_7]]
    isplitl [H6]; · iexact H6
    iexact H7
  · rw [if_neg h, if_neg h, Dat.leavesExact_idle (dat W c) 6 t (idle_6 t h) (noFlush_6 t h), Dat.leavesExact_idle (dat W c) 7 t (idle_7 t h) (noFlush_7 t h)]
    isplitl [H6]; · iexists _; iexact H6
    iexists _; iexact H7

/-- The library's body obligation, at every point. -/
theorem body (c : Dev nD) : BodyObligation (dat W c) (defs₀ (F := F)) Variants.none () Set.univ := fun t => by
  rw [bigSep_W5, bigSep_W5, show defs₀ (F := F) .tc cfg5.body (cfg5.bodyArgs t (cfg5.slots t)) = bodyAt5 t from by unfold defs₀; rw [Defs.onTc_tc]]
  exact triple_restated (sound W c t) rfl .rfl fun _ => .rfl

theorem hin (c : Dev nD) : iprop(Pipeline.scopedRest spec5 c ∗ (∃ r, prngReg c r)) ⊢ (dat W c).Φ 0 := by
  rw [scopedRest5_split, Φ_eq]
  simp only [owns_whole]
  iintro ⟨⟨⟨⟨%f0, S0⟩, ⟨%f1, S1⟩⟩, Hr⟩, Hg⟩
  isplitl [S0]
  · iexists f0; isplitr
    · ipureintro; intro h; exact absurd rfl h
    iexact S0
  isplitl [S1]
  · iexists f1; isplitr
    · ipureintro; intro h; exact absurd rfl h
    iexact S1
  isplitl [Hr]; · iexact Hr
  iexact Hg

theorem hout (c : Dev nD) : (dat W c).Φ (Fin.last cfg5.N) ⊢ iprop(Pipeline.scopedRest spec5 c ∗ (∃ r, prngReg c r)) := by
  rw [scopedRest5_split, Φ_eq]
  simp only [owns_whole]
  iintro ⟨⟨%s0, -, S0⟩, ⟨%s1, -, S1⟩, Hr, Hg⟩
  isplitl [S0 S1 Hr]
  · isplitl [S0 S1]
    · isplitl [S0]
      · iexists _; iexact S0
      iexists _; iexact S1
    iexact Hr
  iexact Hg

end Cert.KernelIdeal.R5

end
-- ==== Proof.Run.lean ====
module

public import proofs.«01_k».proof.Proof.R0
public import proofs.«01_k».proof.Proof.R1
public import proofs.«01_k».proof.Proof.R2
public import proofs.«01_k».proof.Proof.R3
public import proofs.«01_k».proof.Proof.R4
public import proofs.«01_k».proof.Proof.R5
public import proofs.«01_k».proof.Proof.Gen.KernelIdeal.Regions
public import Idealize.ShloMosaic.Lib.Pipeline.RegionArraysS

/-!
# The whole kernel, run

The six regions in order, each from what the one before left; the run's final memory, as one valuation.
-/

@[expose] public section

set_option maxRecDepth 16384

noncomputable section

namespace Cert.KernelIdeal.All

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg Dat Cfg Window BodyObligation RegionSeg LevelCut afterRegion arrRef)

variable {F : FTy → Type} [FloatOps F]

local notation "𝕄" => MT nD τ sig Unit (Elt F) ℕ (UR sig nD τ) ℕ

/-- A region's exit valuation changes only the arrays of its output windows: with one of them. -/
theorem after_one {Λ' : Labels} {cfg : Pipeline.Cfg sig Λ'} {c : Dev nD} (d : Dat τ (Elt F) Unit ℕ (UR sig nD τ) ℕ cfg c) (V : Valuation τ sig (Elt F))
    (hinj : Function.Injective (arrRef cfg.spec)) (hA : ∀ w, d.A w = V (Proc.devRef .tc (arrRef cfg.spec w))) (o : Fin cfg.W)
    (ho : ∀ w, w ≠ o → (cfg.win w).isOut = false) :
    afterRegion d V = Function.update V (Proc.devRef .tc (arrRef cfg.spec o)) (d.arrAt o cfg.N) := by
  funext b
  by_cases hb : ∃ w, b = Proc.devRef .tc (arrRef cfg.spec w)
  · obtain ⟨w, rfl⟩ := hb
    rw [Pipeline.afterRegion_arr d V hinj w]
    by_cases hw : w = o
    · subst hw; rw [Function.update_self]
    · rw [Function.update_of_ne (StableHlo.devRef_ne_of_ne fun e => hw (hinj e)), d.arrAt_in w (ho w hw), hA]
  · unfold afterRegion
    rw [dif_neg hb, Function.update_of_ne (fun e => hb ⟨o, e⟩)]

/-- The same, with two. -/
theorem after_two {Λ' : Labels} {cfg : Pipeline.Cfg sig Λ'} {c : Dev nD} (d : Dat τ (Elt F) Unit ℕ (UR sig nD τ) ℕ cfg c) (V : Valuation τ sig (Elt F))
    (hinj : Function.Injective (arrRef cfg.spec)) (hA : ∀ w, d.A w = V (Proc.devRef .tc (arrRef cfg.spec w))) (o o' : Fin cfg.W)
    (ho : ∀ w, w ≠ o → w ≠ o' → (cfg.win w).isOut = false) :
    afterRegion d V = Function.update (Function.update V (Proc.devRef .tc (arrRef cfg.spec o)) (d.arrAt o cfg.N)) (Proc.devRef .tc (arrRef cfg.spec o')) (d.arrAt o' cfg.N) := by
  funext b
  by_cases hb : ∃ w, b = Proc.devRef .tc (arrRef cfg.spec w)
  · obtain ⟨w, rfl⟩ := hb
    rw [Pipeline.afterRegion_arr d V hinj w]
    by_cases hw' : w = o'
    · subst hw'; rw [Function.update_self]
    · rw [Function.update_of_ne (StableHlo.devRef_ne_of_ne fun e => hw' (hinj e))]
      by_cases hw : w = o
      · subst hw; rw [Function.update_self]
      · rw [Function.update_of_ne (StableHlo.devRef_ne_of_ne fun e => hw (hinj e)), d.arrAt_in w (ho w hw hw'), hA]
  · unfold afterRegion
    rw [dif_neg hb, Function.update_of_ne (fun e => hb ⟨o', e⟩), Function.update_of_ne (fun e => hb ⟨o, e⟩)]

variable (m : ∀ l : Loc nD τ sig, Buf (Elt F) l)

/-! ## The valuations between the regions -/

/-- Every buffer before the first region. -/
def W0 (c : Dev nD) : Valuation τ sig (Elt F) := V5 m c
/-- Every buffer after region 0. -/
def W1 (c : Dev nD) : Valuation τ sig (Elt F) := Function.update (W0 m c) main_v10 ((R0.dat (W0 m) c).arrAt 4 cfg0.N)
/-- Every buffer after region 1. -/
def W2 (c : Dev nD) : Valuation τ sig (Elt F) := Function.update (Function.update (W1 m c) main_v11_0 ((R1.dat (W1 m) c).arrAt 3 cfg1.N)) main_v11_1 ((R1.dat (W1 m) c).arrAt 4 cfg1.N)
/-- Every buffer after region 2. -/
def W3 (c : Dev nD) : Valuation τ sig (Elt F) := Function.update (W2 m c) main_v12 ((R2.dat (W2 m) c).arrAt 3 cfg2.N)
/-- Every buffer after region 3. -/
def W4 (c : Dev nD) : Valuation τ sig (Elt F) := Function.update (W3 m c) main_v13 ((R3.dat (W3 m) c).arrAt 3 cfg3.N)
/-- Every buffer after region 4. -/
def W5 (c : Dev nD) : Valuation τ sig (Elt F) := Function.update (W4 m c) main_v14 ((R4.dat (W4 m) c).arrAt 2 cfg4.N)
/-- Every buffer after region 5. -/
def W6 (c : Dev nD) : Valuation τ sig (Elt F) := Function.update (Function.update (W5 m c) main_v15_0 ((R5.dat (W5 m) c).arrAt 6 cfg5.N)) main_v15_1 ((R5.dat (W5 m) c).arrAt 7 cfg5.N)

/-- What each region leaves in the arrays it writes. -/
def outs : Outs (F := F) := fun j r c => match j with
  | 6 => W1 m c r
  | 7 => W2 m c r
  | 8 => W3 m c r
  | 9 => W4 m c r
  | 10 => W5 m c r
  | _ => W6 m c r

theorem W0_eq (c : Dev nD) : V5 m c = W0 m c := rfl
theorem W1_eq (c : Dev nD) : V6 m (outs m) c = W1 m c := by
  show Function.update (V5 m c) _ (W1 m c main_v10) = _
  rw [W0_eq m c]; unfold W1; rw [Function.update_self]
theorem W2_eq (c : Dev nD) : V7 m (outs m) c = W2 m c := by
  show Function.update (Function.update (V6 m (outs m) c) _ (W2 m c main_v11_0)) _ (W2 m c main_v11_1) = _
  rw [W1_eq m c]; unfold W2
  rw [Function.update_self, Function.update_of_ne (StableHlo.devRef_ne_of_ne (by decide) : (Proc.devRef .tc main_v11_0 : DevRef τ sig) ≠ Proc.devRef .tc main_v11_1), Function.update_self]
theorem W3_eq (c : Dev nD) : V8 m (outs m) c = W3 m c := by
  show Function.update (V7 m (outs m) c) _ (W3 m c main_v12) = _
  rw [W2_eq m c]; unfold W3; rw [Function.update_self]
theorem W4_eq (c : Dev nD) : V9 m (outs m) c = W4 m c := by
  show Function.update (V8 m (outs m) c) _ (W4 m c main_v13) = _
  rw [W3_eq m c]; unfold W4; rw [Function.update_self]
theorem W5_eq (c : Dev nD) : V10 m (outs m) c = W5 m c := by
  show Function.update (V9 m (outs m) c) _ (W5 m c main_v14) = _
  rw [W4_eq m c]; unfold W5; rw [Function.update_self]
theorem W6_eq (c : Dev nD) : V11 m (outs m) c = W6 m c := by
  show Function.update (Function.update (V10 m (outs m) c) _ (W6 m c main_v15_0)) _ (W6 m c main_v15_1) = _
  rw [W5_eq m c]; unfold W6
  rw [Function.update_self, Function.update_of_ne (StableHlo.devRef_ne_of_ne (by decide) : (Proc.devRef .tc main_v15_0 : DevRef τ sig) ≠ Proc.devRef .tc main_v15_1), Function.update_self]

/-! ## The regions' records -/

/-- The proof data of all six regions. -/
def dats : (p : Fin 6) → (c : Dev nD) → Dat τ (Elt F) Unit ℕ (UR sig nD τ) ℕ (cfgs p) c
  | 0 => R0.dat (W0 m)
  | 1 => R1.dat (W1 m)
  | 2 => R2.dat (W2 m)
  | 3 => R3.dat (W3 m)
  | 4 => R4.dat (W4 m)
  | 5 => R5.dat (W5 m)
  | ⟨_ + 6, h⟩ => absurd h (Nat.not_lt.2 (Nat.le_add_left _ _))

/-- The levels: every TensorCore cell at level 0. -/
def lset (g : GSem nD τ sig) : Finset Unit := if g.1.2 = .tc then {()} else ∅
def lvl : GSem nD τ sig → Unit → ℕ := fun _ _ => 0

theorem cut (p : Fin 6) : LevelCut (pcfgs (F := F)) adm () lset lvl p (fun _ => (0 : CellTallies nD τ sig Unit)) (fun _ => 0) where
  hι c w s := by unfold lset; rw [if_pos rfl]; exact Finset.mem_singleton_self _
  hιb c w s := le_refl _
  hD c g i h := absurd h (lt_irrefl _)

/-- What rides along beside the buffers. -/
def rest (_ : Fin 7) (c : Dev nD) : sProp 𝕄 := iprop((∃ Wd, owes (c : Thread nD τ) (0 : CellTallies nD τ sig Unit) Wd) ∗ (∃ r, prngReg c r) ∗ emp)

theorem after0 (c : Dev nD) : afterRegion (dats m 0 c) (W0 m c) = W1 m c :=
  (after_one (R0.dat (W0 m) c) _ winFacts0.arr_inj (R0.A_eq (W0 m) c) 4 (by decide)).trans rfl
theorem after1 (c : Dev nD) : afterRegion (dats m 1 c) (W1 m c) = W2 m c :=
  (after_two (R1.dat (W1 m) c) _ winFacts1.arr_inj (R1.A_eq (W1 m) c) 3 4 (by decide)).trans rfl
theorem after2 (c : Dev nD) : afterRegion (dats m 2 c) (W2 m c) = W3 m c :=
  (after_one (R2.dat (W2 m) c) _ winFacts2.arr_inj (R2.A_eq (W2 m) c) 3 (by decide)).trans rfl
theorem after3 (c : Dev nD) : afterRegion (dats m 3 c) (W3 m c) = W4 m c :=
  (after_one (R3.dat (W3 m) c) _ winFacts3.arr_inj (R3.A_eq (W3 m) c) 3 (by decide)).trans rfl
theorem after4 (c : Dev nD) : afterRegion (dats m 4 c) (W4 m c) = W5 m c :=
  (after_one (R4.dat (W4 m) c) _ winFacts4.arr_inj (R4.A_eq (W4 m) c) 2 (by decide)).trans rfl
theorem after5 (c : Dev nD) : afterRegion (dats m 5 c) (W5 m c) = W6 m c :=
  (after_two (R5.dat (W5 m) c) _ winFacts5.arr_inj (R5.A_eq (W5 m) c) 6 7 (by decide)).trans rfl
theorem sub_0 : Pipeline.arrRefs (τ := τ) (pcfgs (F := F) 0).spec ⊆ Pipeline.ucRefs τ sig := Pipeline.arrRefs_sub_ucRefs spec0 winFacts0.arr_unscoped

set_option backward.isDefEq.respectTransparency.types false in
/-- Region 0. -/
def seg_0 : RegionSeg (pcfgs (F := F)) adm (dats m) () defs₀ Variants.none lset lvl 0 :=
  RegionSeg.ofHeldIn (pcfgs (F := F)) adm (dats m) () defs₀ Variants.none lset lvl 0 (fun _ => 0) (Pipeline.ucRefs τ sig)
    (fun c => iprop(∃ r, prngReg c r)) (fun c => iprop(∃ r, prngReg c r)) launch0.toP rfl
    (fun c => (R0.body (W0 m) c).loose) (fun c t => rfl) (fun c => rfl) (fun c w => (R0.dat (W0 m) c).share_full (fun _ => rfl) w)
    (fun c => R0.hin (W0 m) c) (fun c => R0.hout (W0 m) c) (fun _ => 0) (cut 0) (fun _ => iprop(emp)) (W0 m)
    (fun c w => R0.A_eq (W0 m) c w)

set_option backward.isDefEq.respectTransparency.types false in
theorem pre_0 (c : Dev nD) : iprop(StableHlo.held (c : Thread nD τ) (Pipeline.ucRefs τ sig) (V5 m c) ∗ rest 0 c) ⊢ (seg_0 m).pre c := by
  rw [W0_eq]; unfold rest seg_0
  refine BI.Entails.trans ?_ (RegionSeg.ofHeldIn_pre sub_0 c)
  exact BI.Entails.refl _

set_option backward.isDefEq.respectTransparency.types false in
theorem post_0 (c : Dev nD) : (seg_0 m).post c ⊢ iprop(StableHlo.held (c : Thread nD τ) (Pipeline.ucRefs τ sig) (V6 m (outs m) c) ∗ rest 1 c) := by
  rw [W1_eq, ← after0]; unfold rest seg_0
  exact RegionSeg.ofHeldIn_post sub_0 c

theorem sub_1 : Pipeline.arrRefs (τ := τ) (pcfgs (F := F) 1).spec ⊆ Pipeline.ucRefs τ sig := Pipeline.arrRefs_sub_ucRefs spec1 winFacts1.arr_unscoped

set_option backward.isDefEq.respectTransparency.types false in
/-- Region 1. -/
def seg_1 : RegionSeg (pcfgs (F := F)) adm (dats m) () defs₀ Variants.none lset lvl 1 :=
  RegionSeg.ofHeldIn (pcfgs (F := F)) adm (dats m) () defs₀ Variants.none lset lvl 1 (fun _ => 0) (Pipeline.ucRefs τ sig)
    (fun c => iprop(∃ r, prngReg c r)) (fun c => iprop(∃ r, prngReg c r)) launch1.toP rfl
    (fun c => (R1.body (W1 m) c).loose) (fun c t => rfl) (fun c => rfl) (fun c w => (R1.dat (W1 m) c).share_full (fun _ => rfl) w)
    (fun c => R1.hin (W1 m) c) (fun c => R1.hout (W1 m) c) (fun _ => 0) (cut 1) (fun _ => iprop(emp)) (W1 m)
    (fun c w => R1.A_eq (W1 m) c w)

set_option backward.isDefEq.respectTransparency.types false in
theorem pre_1 (c : Dev nD) : iprop(StableHlo.held (c : Thread nD τ) (Pipeline.ucRefs τ sig) (V6 m (outs m) c) ∗ rest 1 c) ⊢ (seg_1 m).pre c := by
  rw [W1_eq]; unfold rest seg_1
  refine BI.Entails.trans ?_ (RegionSeg.ofHeldIn_pre sub_1 c)
  exact BI.Entails.refl _

set_option backward.isDefEq.respectTransparency.types false in
theorem post_1 (c : Dev nD) : (seg_1 m).post c ⊢ iprop(StableHlo.held (c : Thread nD τ) (Pipeline.ucRefs τ sig) (V7 m (outs m) c) ∗ rest 2 c) := by
  rw [W2_eq, ← after1]; unfold rest seg_1
  exact RegionSeg.ofHeldIn_post sub_1 c

theorem sub_2 : Pipeline.arrRefs (τ := τ) (pcfgs (F := F) 2).spec ⊆ Pipeline.ucRefs τ sig := Pipeline.arrRefs_sub_ucRefs spec2 winFacts2.arr_unscoped

set_option backward.isDefEq.respectTransparency.types false in
/-- Region 2. -/
def seg_2 : RegionSeg (pcfgs (F := F)) adm (dats m) () defs₀ Variants.none lset lvl 2 :=
  RegionSeg.ofHeldIn (pcfgs (F := F)) adm (dats m) () defs₀ Variants.none lset lvl 2 (fun _ => 0) (Pipeline.ucRefs τ sig)
    (fun c => iprop(∃ r, prngReg c r)) (fun c => iprop(∃ r, prngReg c r)) launch2.toP rfl
    (fun c => (R2.body (W2 m) c).loose) (fun c t => rfl) (fun c => rfl) (fun c w => (R2.dat (W2 m) c).share_full (fun _ => rfl) w)
    (fun c => R2.hin (W2 m) c) (fun c => R2.hout (W2 m) c) (fun _ => 0) (cut 2) (fun _ => iprop(emp)) (W2 m)
    (fun c w => R2.A_eq (W2 m) c w)

set_option backward.isDefEq.respectTransparency.types false in
theorem pre_2 (c : Dev nD) : iprop(StableHlo.held (c : Thread nD τ) (Pipeline.ucRefs τ sig) (V7 m (outs m) c) ∗ rest 2 c) ⊢ (seg_2 m).pre c := by
  rw [W2_eq]; unfold rest seg_2
  refine BI.Entails.trans ?_ (RegionSeg.ofHeldIn_pre sub_2 c)
  exact BI.Entails.refl _

set_option backward.isDefEq.respectTransparency.types false in
theorem post_2 (c : Dev nD) : (seg_2 m).post c ⊢ iprop(StableHlo.held (c : Thread nD τ) (Pipeline.ucRefs τ sig) (V8 m (outs m) c) ∗ rest 3 c) := by
  rw [W3_eq, ← after2]; unfold rest seg_2
  exact RegionSeg.ofHeldIn_post sub_2 c

theorem sub_3 : Pipeline.arrRefs (τ := τ) (pcfgs (F := F) 3).spec ⊆ Pipeline.ucRefs τ sig := Pipeline.arrRefs_sub_ucRefs spec3 winFacts3.arr_unscoped

set_option backward.isDefEq.respectTransparency.types false in
/-- Region 3. -/
def seg_3 : RegionSeg (pcfgs (F := F)) adm (dats m) () defs₀ Variants.none lset lvl 3 :=
  RegionSeg.ofHeldIn (pcfgs (F := F)) adm (dats m) () defs₀ Variants.none lset lvl 3 (fun _ => 0) (Pipeline.ucRefs τ sig)
    (fun c => iprop(∃ r, prngReg c r)) (fun c => iprop(∃ r, prngReg c r)) launch3.toP rfl
    (fun c => (R3.body (W3 m) c).loose) (fun c t => rfl) (fun c => rfl) (fun c w => (R3.dat (W3 m) c).share_full (fun _ => rfl) w)
    (fun c => R3.hin (W3 m) c) (fun c => R3.hout (W3 m) c) (fun _ => 0) (cut 3) (fun _ => iprop(emp)) (W3 m)
    (fun c w => R3.A_eq (W3 m) c w)

set_option backward.isDefEq.respectTransparency.types false in
theorem pre_3 (c : Dev nD) : iprop(StableHlo.held (c : Thread nD τ) (Pipeline.ucRefs τ sig) (V8 m (outs m) c) ∗ rest 3 c) ⊢ (seg_3 m).pre c := by
  rw [W3_eq]; unfold rest seg_3
  refine BI.Entails.trans ?_ (RegionSeg.ofHeldIn_pre sub_3 c)
  exact BI.Entails.refl _

set_option backward.isDefEq.respectTransparency.types false in
theorem post_3 (c : Dev nD) : (seg_3 m).post c ⊢ iprop(StableHlo.held (c : Thread nD τ) (Pipeline.ucRefs τ sig) (V9 m (outs m) c) ∗ rest 4 c) := by
  rw [W4_eq, ← after3]; unfold rest seg_3
  exact RegionSeg.ofHeldIn_post sub_3 c

theorem sub_4 : Pipeline.arrRefs (τ := τ) (pcfgs (F := F) 4).spec ⊆ Pipeline.ucRefs τ sig := Pipeline.arrRefs_sub_ucRefs spec4 winFacts4.arr_unscoped

set_option backward.isDefEq.respectTransparency.types false in
/-- Region 4. -/
def seg_4 : RegionSeg (pcfgs (F := F)) adm (dats m) () defs₀ Variants.none lset lvl 4 :=
  RegionSeg.ofHeldIn (pcfgs (F := F)) adm (dats m) () defs₀ Variants.none lset lvl 4 (fun _ => 0) (Pipeline.ucRefs τ sig)
    (fun c => iprop(∃ r, prngReg c r)) (fun c => iprop(∃ r, prngReg c r)) launch4.toP rfl
    (fun c => (R4.body (W4 m) c).loose) (fun c t => rfl) (fun c => rfl) (fun c w => (R4.dat (W4 m) c).share_full (fun _ => rfl) w)
    (fun c => R4.hin (W4 m) c) (fun c => R4.hout (W4 m) c) (fun _ => 0) (cut 4) (fun _ => iprop(emp)) (W4 m)
    (fun c w => R4.A_eq (W4 m) c w)

set_option backward.isDefEq.respectTransparency.types false in
theorem pre_4 (c : Dev nD) : iprop(StableHlo.held (c : Thread nD τ) (Pipeline.ucRefs τ sig) (V9 m (outs m) c) ∗ rest 4 c) ⊢ (seg_4 m).pre c := by
  rw [W4_eq]; unfold rest seg_4
  refine BI.Entails.trans ?_ (RegionSeg.ofHeldIn_pre sub_4 c)
  exact BI.Entails.refl _

set_option backward.isDefEq.respectTransparency.types false in
theorem post_4 (c : Dev nD) : (seg_4 m).post c ⊢ iprop(StableHlo.held (c : Thread nD τ) (Pipeline.ucRefs τ sig) (V10 m (outs m) c) ∗ rest 5 c) := by
  rw [W5_eq, ← after4]; unfold rest seg_4
  exact RegionSeg.ofHeldIn_post sub_4 c

theorem sub_5 : Pipeline.arrRefs (τ := τ) (pcfgs (F := F) 5).spec ⊆ Pipeline.ucRefs τ sig := Pipeline.arrRefs_sub_ucRefs spec5 winFacts5.arr_unscoped

set_option backward.isDefEq.respectTransparency.types false in
/-- Region 5. -/
def seg_5 : RegionSeg (pcfgs (F := F)) adm (dats m) () defs₀ Variants.none lset lvl 5 :=
  RegionSeg.ofHeldIn (pcfgs (F := F)) adm (dats m) () defs₀ Variants.none lset lvl 5 (fun _ => 0) (Pipeline.ucRefs τ sig)
    (fun c => iprop(∃ r, prngReg c r)) (fun c => iprop(∃ r, prngReg c r)) launch5.toP rfl
    (fun c => (R5.body (W5 m) c).loose) (fun c t => rfl) (fun c => rfl) (fun c w => (R5.dat (W5 m) c).share_full (fun _ => rfl) w)
    (fun c => R5.hin (W5 m) c) (fun c => R5.hout (W5 m) c) (fun _ => 0) (cut 5) (fun _ => iprop(emp)) (W5 m)
    (fun c w => R5.A_eq (W5 m) c w)

set_option backward.isDefEq.respectTransparency.types false in
theorem pre_5 (c : Dev nD) : iprop(StableHlo.held (c : Thread nD τ) (Pipeline.ucRefs τ sig) (V10 m (outs m) c) ∗ rest 5 c) ⊢ (seg_5 m).pre c := by
  rw [W5_eq]; unfold rest seg_5
  refine BI.Entails.trans ?_ (RegionSeg.ofHeldIn_pre sub_5 c)
  exact BI.Entails.refl _

set_option backward.isDefEq.respectTransparency.types false in
theorem post_5 (c : Dev nD) : (seg_5 m).post c ⊢ iprop(StableHlo.held (c : Thread nD τ) (Pipeline.ucRefs τ sig) (V11 m (outs m) c) ∗ rest 6 c) := by
  rw [W6_eq, ← after5]; unfold rest seg_5
  exact RegionSeg.ofHeldIn_post sub_5 c

theorem rest_end (c : Dev nD) : rest 6 c ⊢ (iprop(∃ W, owes (c : Thread nD τ) (0 : CellTallies nD τ sig Unit) W) : sProp 𝕄) := by
  unfold rest
  iintro ⟨H, -⟩
  iexact H

theorem start_one (ρ : Dev nD → PrngReg) (c : Dev nD) : (iprop(unscopedSems0 c ∗ owes (c : Thread nD τ) (0 : CellTallies nD τ sig Unit) ∅ ∗ Pipeline.launchCred (fun _ => (0 : CellTallies nD τ sig Unit)) c ∗ prngReg c (ρ c) ∗ emp) : sProp 𝕄)
    ⊢ rest 0 c := by
  unfold rest
  iintro ⟨-, HO, -, Hp, -⟩
  isplitl [HO]; · iexists _; iexact HO
  isplitl [Hp]; · iexists _; iexact Hp
  iempintro

theorem rest_start (ρ : Dev nD → PrngReg) : iprop((bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ emp)) ∗ levAts lset lvl)
      ⊢ (|={Set.univ}=> bigSep Finset.univ (rest 0) : sProp 𝕄) := by
  have h : (bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ emp))
      ⊢ (bigSep Finset.univ (rest 0) : sProp 𝕄) := bigSep_mono fun c _ => start_one ρ c
  iintro ⟨H, -⟩
  imodintro
  iapply h
  iexact H

/-- Every unscoped buffer when the kernel returns. -/
def fin (c : Dev nD) : Valuation τ sig (Elt F) := StableHlo.after hostOps6 (W6 m c)

theorem fin_eq (c : Dev nD) : V12 m (outs m) c = fin m c := by
  show StableHlo.after hostOps6 (V11 m (outs m) c) = _
  rw [W6_eq]; rfl

set_option backward.isDefEq.respectTransparency.types false in
/-- Every weakly fair run of the kernel ends, with the unscoped buffers at `fin` and every semaphore counter at zero. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem ((c : Thread nD τ).1, b) = fin m c b) ∧ r.2.sem = fun _ => 0) := by
  refine Pipeline.θ_run_regions_kit_dev_sems (pcfgs (F := F)) adm (dats m) () cellOf_inj emb₁ defs₀ Variants.none lset lvl m ρ main
    (segs m (outs m) Variants.none lset lvl rest () (dats m) (seg_0 m) (seg_1 m) (seg_2 m) (seg_3 m) (seg_4 m) (seg_5 m))
    (fun c Q => by
      rewrite [main_chain c, Seg.run_eq_chain,
        show (segs m (outs m) Variants.none lset lvl rest () (dats m) (seg_0 m) (seg_1 m) (seg_2 m) (seg_3 m) (seg_4 m) (seg_5 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()),
          Prog.lift (.customCall (Pipeline.entry 2) ()),
          Prog.lift (.customCall (Pipeline.entry 3) ()),
          Prog.lift (.customCall (Pipeline.entry 4) ()),
          Prog.lift (.customCall (Pipeline.entry 5) ()),
          StableHlo.seq hostOps6 ] from rfl]
      dsimp (config := { failIfUnchanged := false }) only
      exact .rfl)
    (fun c => by simp only [segs, Seg.pipes_host, Seg.pipes_region, Seg.pipes_nil]; decide) (fun _ => 0) (fun g h => if_neg h) (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ rest 0 c))
    (Tₙ := fun c => StableHlo.held (c : Thread nD τ) (Pipeline.ucRefs τ sig) (V12 m (outs m) c))
    (hch := fun c => ⟨.rfl, .rfl, .rfl, .rfl, .rfl, pre_0 m c, (post_0 m c).trans (pre_1 m c), (post_1 m c).trans (pre_2 m c), (post_2 m c).trans (pre_3 m c), (post_3 m c).trans (pre_4 m c), (post_4 m c).trans (pre_5 m c), post_5 m c, sep_mono .rfl (rest_end c)⟩)
    (hinit := ?_) (QY := fun c s => ∀ b ∈ Pipeline.ucRefs τ sig, s.mem ((c : Thread nD τ).1, b) = fin m c b)
    (hfin := fun c s' => ?_) (hQ := fun _ h hz => ⟨h, funext fun g => hz g (.inr (regions_no_unscoped g.2))⟩)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ => (0 : CellTallies nD τ sig Unit)) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (rest_start ρ) $$ [Hr Hla] with HE
    · isplitl [Hr]; · iexact Hr
      iexact Hla
    imodintro
    rw [bigSep_sep']
    isplitl [Hh]; · iexact Hh
    iexact HE
  · unfold StableHlo.held
    rw [fin_eq]
    iintro ⟨Hh, HSI⟩
    ihave Hr := (pointsTo_read_all (Pipeline.ucRefs τ sig) (fun b => ((c : Thread nD τ).1, b)) (fin m c) s') $$ [Hh HSI]
    · isplitl [Hh] <;> iassumption
    icases Hr with ⟨%h, HSI⟩
    imodintro
    isplitr
    · ipureintro
      exact h
    iexact HSI

/-- A TensorCore reference that is no scope's is among the buffers `run` reads. -/
theorem mem_uc (r : Ref sig .tc) (h : (Proc.devRef (τ := τ) .tc r).isScoped = false) : Proc.devRef .tc r ∈ Pipeline.ucRefs τ sig :=
  Finset.mem_filter.mpr ⟨StableHlo.devRef_mem_tcRefs r, by simp [h]⟩

theorem fin_arg (c : Dev nD) (r : Ref sig .tc) (h : V12 m (outs m) c r = m ((c : Thread nD τ).loc r)) : fin m c r = m ((c : Thread nD τ).loc r) :=
  (congrFun (fin_eq m c) _).symm.trans h

/-- Every weakly fair run of the kernel ends with its arguments as they were and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c _ (mem_uc main_arg0 (by decide))).trans (fin_arg m c main_arg0 (V12_main_arg0 m (outs m) c)),
    (h.1 c _ (mem_uc main_arg1 (by decide))).trans (fin_arg m c main_arg1 (V12_main_arg1 m (outs m) c)),
    (h.1 c _ (mem_uc main_arg2 (by decide))).trans (fin_arg m c main_arg2 (V12_main_arg2 m (outs m) c)),
    (h.1 c _ (mem_uc main_arg3 (by decide))).trans (fin_arg m c main_arg3 (V12_main_arg3 m (outs m) c)),
    (h.1 c _ (mem_uc main_arg4 (by decide))).trans (fin_arg m c main_arg4 (V12_main_arg4 m (outs m) c)),
    (h.1 c _ (mem_uc main_arg5 (by decide))).trans (fin_arg m c main_arg5 (V12_main_arg5 m (outs m) c)),
    (h.1 c _ (mem_uc main_arg6 (by decide))).trans (fin_arg m c main_arg6 (V12_main_arg6 m (outs m) c)),
    (h.1 c _ (mem_uc main_arg7 (by decide))).trans (fin_arg m c main_arg7 (V12_main_arg7 m (outs m) c)),
    (h.1 c _ (mem_uc main_arg8 (by decide))).trans (fin_arg m c main_arg8 (V12_main_arg8 m (outs m) c))⟩, h.2⟩) (run m ρ)

end Cert.KernelIdeal.All
-- ==== Proof.Frames.lean ====
module

public import proofs.«01_k».proof.Defs
public import proofs.«01_k».proof.Proof.Gen.Kernel
public import proofs.«01_k».proof.Proof.Run
public import proofs.«01_k».proof.Proof.Gen.ReferenceIdeal.Frame

/-!
# The frames

The printed kernel and its idealization are one text, so the run proved at any scalar type serves both.
-/

@[expose] public section

set_option maxRecDepth 100000
set_option maxHeartbeats 0

noncomputable section

namespace Cert.Frames

open Idealize.ShloMosaic Idealize.SL.Sem

theorem main_eq : Cert.Kernel.main (F := Bits) = Cert.KernelIdeal.main (F := Bits) := by with_unfolding_all rfl
theorem defs₀_tc : ∀ l x, Cert.Kernel.defs₀ (F := Bits) .tc l x = Cert.KernelIdeal.defs₀ (F := Bits) .tc l x
  | 0, (t, s) => by with_unfolding_all rfl
  | 1, (t, s) => by with_unfolding_all rfl
  | 2, (t, s) => by with_unfolding_all rfl
  | 3, (t, s) => by with_unfolding_all rfl
  | 4, (t, s) => by with_unfolding_all rfl
  | 5, (t, s) => by with_unfolding_all rfl
theorem defs₀_eq : Cert.Kernel.defs₀ (F := Bits) = Cert.KernelIdeal.defs₀ (F := Bits) := funext fun
  | .tc => funext fun l => funext fun x => defs₀_tc l x
  | .scScalar _ => rfl
  | .scVector _ _ => rfl
theorem defs_eq : Cert.Kernel.defs (F := Bits) = Cert.KernelIdeal.defs (F := Bits) :=
  congrArg (Pipeline.defs (Cert.KernelIdeal.pcfgs (F := Bits))) defs₀_eq

theorem kernel : Cert.quiescent_Kernel (hKernel := Cert.Kernel.Gen.facts) := fun m g _ => by
  have h := Cert.KernelIdeal.All.frame (F := Bits) m g
  rw [← main_eq, ← defs_eq] at h
  exact h

theorem kernelIdeal : Cert.quiescent_KernelIdeal (hKernelIdeal := Cert.KernelIdeal.Gen.facts) := fun m g _ =>
  Cert.KernelIdeal.All.frame m g

theorem referenceIdeal : Cert.quiescent_ReferenceIdeal (hReferenceIdeal := Cert.ReferenceIdeal.Gen.facts) := fun m g _ =>
  Cert.ReferenceIdeal.Gen.frame m g

end Cert.Frames

end
-- ==== Proof.Spec.lean ====
module

public import Idealize.ShloMosaic.Lib.Pipeline.ValueKit
public import Idealize.ShloMosaic.Lib.Pointwise

/-!
# The four gradients, written once over the extended reals

Both programs are shown to leave these values: the kernel with its tokens in one row of 8192 and its sums cut into
blocks, the reference with its tokens in two rows of 4096 and its weight's even and odd rows apart.
-/

@[expose] public section

set_option maxRecDepth 16384

noncomputable section

namespace Cert.Spec

open Idealize.ShloMosaic

/-- The arguments, each by its coordinates. -/
structure Args where
  dy : Fin 2 → Fin 4096 → Fin 18432 → EReal
  xc : Fin 2 → Fin 4096 → Fin 7168 → EReal
  xs : Fin 2 → Fin 4096 → Fin 224 → EReal
  w : Fin 3584 → Fin 18432 → BitVec 8
  ws : Fin 56 → Fin 18432 → EReal
  A : Fin 7168 → Fin 96 → EReal
  B : Fin 96 → Fin 18432 → EReal
  mag : Fin 18432 → EReal
  nrm : Fin 18432 → EReal

/-- The scale of the low-rank product. -/
def half : EReal := Ideal.ofBits .f32 0x3F000000#32
/-- A norm, with one in place of zero. -/
def safe (x : EReal) : EReal := if x = 0 then 1 else x
/-- The low half of a byte, as the signed number it stands for. -/
def lo (b : BitVec 8) : BitVec 32 :=
  IntOp.subi (IntOp.xori (IntOp.andi (BitVec.setWidth 32 b) 15#32) 8#32) 8#32
/-- The high half of a byte, as the signed number it stands for. -/
def hi (b : BitVec 8) : BitVec 32 :=
  IntOp.subi (IntOp.xori (IntOp.andi (IntOp.shrsi .vector (BitVec.setWidth 32 b) 4#32) 15#32) 8#32) 8#32
/-- The number at a row's parity. -/
def nib (b : BitVec 8) (r : Nat) : BitVec 32 := if r < 1 then lo b else hi b

variable (a : Args)

/-- The combined weight. -/
def V (k : Fin 7168) (n : Fin 18432) : EReal :=
  FloatOps.sitofp (F := Ideal) .bf16 (nib (a.w ⟨k.val / 2, by omega⟩ n) (k.val % 2)) * a.ws ⟨k.val / 128, by omega⟩ n
    + half * ∑ r : Fin 96, a.A k r * a.B r n
/-- The activations with their scales. -/
def xh (b : Fin 2) (s : Fin 4096) (k : Fin 7168) : EReal := a.xc b s k * a.xs b s ⟨k.val / 32, by omega⟩
/-- The incoming gradient with the magnitude over the norm. -/
def dyp (b : Fin 2) (s : Fin 4096) (n : Fin 18432) : EReal := a.dy b s n * Ideal.div (a.mag n) (safe (a.nrm n))
/-- The gradient of the activations. -/
def dx (b : Fin 2) (s : Fin 4096) (k : Fin 7168) : EReal := ∑ n : Fin 18432, dyp a b s n * V a k n
/-- The gradient of `lora_a`. -/
def dA (k : Fin 7168) (r : Fin 96) : EReal :=
  half * ∑ b : Fin 2, ∑ s : Fin 4096, xh a b s k * ∑ n : Fin 18432, dyp a b s n * a.B r n
/-- The gradient of `lora_b`. -/
def dB (r : Fin 96) (n : Fin 18432) : EReal :=
  half * ∑ b : Fin 2, ∑ s : Fin 4096, (∑ k : Fin 7168, xh a b s k * a.A k r) * dyp a b s n
/-- The gradient of the magnitudes. -/
def dm (n : Fin 18432) : EReal :=
  Ideal.div (∑ b : Fin 2, ∑ s : Fin 4096, a.dy b s n * ∑ k : Fin 7168, xh a b s k * V a k n) (safe (a.nrm n))

/-- An even row of the weight, which the low halves hold. -/
theorem V_even (j : Fin 3584) (n : Fin 18432) : V a ⟨2 * j.val, by omega⟩ n
    = FloatOps.sitofp (F := Ideal) .bf16 (lo (a.w j n)) * a.ws ⟨j.val / 64, by omega⟩ n
      + half * ∑ r : Fin 96, a.A ⟨2 * j.val, by omega⟩ r * a.B r n := by
  have e1 : (⟨2 * j.val / 2, by omega⟩ : Fin 3584) = j := Fin.ext (by show 2 * j.val / 2 = j.val; omega)
  have e2 : (⟨2 * j.val / 128, by omega⟩ : Fin 56) = ⟨j.val / 64, by omega⟩ := Fin.ext (by show 2 * j.val / 128 = j.val / 64; omega)
  have e3 : nib (a.w j n) (2 * j.val % 2) = lo (a.w j n) := if_pos (by omega)
  unfold V; simp only [e1, e2, e3]

/-- An odd row of the weight, which the high halves hold. -/
theorem V_odd (j : Fin 3584) (n : Fin 18432) : V a ⟨1 + 2 * j.val, by omega⟩ n
    = FloatOps.sitofp (F := Ideal) .bf16 (hi (a.w j n)) * a.ws ⟨j.val / 64, by omega⟩ n
      + half * ∑ r : Fin 96, a.A ⟨1 + 2 * j.val, by omega⟩ r * a.B r n := by
  have e1 : (⟨(1 + 2 * j.val) / 2, by omega⟩ : Fin 3584) = j := Fin.ext (by show (1 + 2 * j.val) / 2 = j.val; omega)
  have e2 : (⟨(1 + 2 * j.val) / 128, by omega⟩ : Fin 56) = ⟨j.val / 64, by omega⟩ := Fin.ext (by show (1 + 2 * j.val) / 128 = j.val / 64; omega)
  have e3 : nib (a.w j n) ((1 + 2 * j.val) % 2) = hi (a.w j n) := if_neg (by omega)
  unfold V; simp only [e1, e2, e3]

/-- The place of token `s` of sequence `b` among all tokens. -/
def tok (b : Fin 2) (s : Fin 4096) : Fin 8192 := ⟨b.val * 4096 + s.val, by omega⟩

/-- A sum over all tokens, sequence by sequence. -/
theorem sum_tok (f : Fin 8192 → EReal) : ∑ t, f t = ∑ b : Fin 2, ∑ s : Fin 4096, f (tok b s) :=
  (Fin.sum_mul_add_fin (L := 8192) 2 4096 f).symm

/-- A sum over the weight's rows, the even rows first and then the odd. -/
theorem sum_par (f : Fin 7168 → EReal) :
    ∑ k, f k = ∑ j : Fin 3584, f ⟨2 * j.val, by omega⟩ + ∑ j : Fin 3584, f ⟨1 + 2 * j.val, by omega⟩ := by
  rw [← Finset.sum_add_distrib]
  refine (Fin.sum_mul_add_fin (L := 7168) 3584 2 f).symm.trans (Finset.sum_congr rfl fun j _ => ?_)
  rw [Fin.sum_univ_two]
  congr 2 <;> (apply Fin.ext; simp only [Fin.val_zero, Fin.val_one]; omega)

end Cert.Spec

end
-- ==== Proof.A0.lean ====
module

public import proofs.«01_k».proof.Proof.R0
public import Idealize.ShloMosaic.Lib.Pipeline.ValueKit
public import Idealize.ShloMosaic.Lib.ValueIdx
public import Idealize.ShloMosaic.Lib.Pointwise

/-!
# The value of the region of `_v_body` over the extended reals
-/

@[expose] public section

set_option maxRecDepth 16384

noncomputable section

namespace Cert.KernelIdeal.R0

open Cert.KernelIdeal.Gen
open Idealize.ShloMosaic Idealize.ShloMosaic.TcCoe Idealize.ShloMosaic.Tactic
open Idealize.ShloMosaic.Pipeline (Dat Cfg Window)

/-- The low half of a byte, as the signed number it stands for. -/
def lo (b : BitVec 8) : BitVec 32 :=
  IntOp.subi (IntOp.xori (IntOp.andi (BitVec.setWidth 32 b) 15#32) 8#32) 8#32
/-- The high half of a byte, as the signed number it stands for. -/
def hi (b : BitVec 8) : BitVec 32 :=
  IntOp.subi (IntOp.xori (IntOp.andi (IntOp.shrsi .vector (BitVec.setWidth 32 b) 4#32) 15#32) 8#32) 8#32
/-- The number at a row's parity. -/
def nib (b : BitVec 8) (r : Nat) : BitVec 32 := if r < 1 then lo b else hi b

/-- The combined weight, of the whole arrays. -/
def G (w : Vec Ideal S3584x18432 .i8) (s : Vec Ideal S56x18432 .bf16) (A : Vec Ideal S7168x96 .bf16) (B : Vec Ideal S96x18432 .bf16) : Vec Ideal S7168x18432 .bf16 :=
  fun i => (FloatOps.sitofp (F := Ideal) .bf16 (nib (w (ix2 ⟨(i 0).val / 2, by have : (i 0).val < 7168 := (i 0).isLt; omega⟩ (i 1))) ((i 0).val % 2)) : EReal)
      * (s (ix2 ⟨(i 0).val / 128, by have : (i 0).val < 7168 := (i 0).isLt; omega⟩ (i 1)) : EReal)
    + (Ideal.ofBits .f32 0x3F000000#32 : EReal) * ∑ k : Fin 96, (A (ix2 (i 0) k) : EReal) * (B (ix2 k (i 1)) : EReal)

theorem pay1 (x0 : Vec Ideal S512x1024 .i8) (x1 : Vec Ideal S8x1024 .bf16) (x2 : Vec Ideal S1024x96 .bf16) (x3 : Vec Ideal S96x1024 .bf16) (y : S1024x1024.Idx) :
    (k0_pay1 x0 x1 x2 x3 y : EReal) = (FloatOps.sitofp (F := Ideal) .bf16 (nib (x0 (ix2 ⟨(y 0).val / 2, by have : (y 0).val < 1024 := (y 0).isLt; omega⟩ (y 1))) ((y 0).val % 2)) : EReal)
      * (x1 (ix2 ⟨(y 0).val / 128, by have : (y 0).val < 1024 := (y 0).isLt; omega⟩ (y 1)) : EReal)
    + (Ideal.ofBits .f32 0x3F000000#32 : EReal) * ∑ k : Fin 96, (x2 (ix2 (y 0) k) : EReal) * (x3 (ix2 k (y 1)) : EReal) := by
  pointwise [k0_pay1]
  rfl

variable (W : Dev nD → Valuation τ sig (Elt Ideal))

theorem idx0 (t : Fin cfg0.N) : win0_0.index t = ![t.val % 7, t.val / 7] :=
  (by decide +kernel : ∀ t : Fin grid0.N, win0_0.index t = ![t.val % 7, t.val / 7]) t
theorem idx1 (t : Fin cfg0.N) : win0_1.index t = ![t.val % 7, t.val / 7] :=
  (by decide +kernel : ∀ t : Fin grid0.N, win0_1.index t = ![t.val % 7, t.val / 7]) t
theorem idx2 (t : Fin cfg0.N) : win0_2.index t = ![t.val % 7, 0] :=
  (by decide +kernel : ∀ t : Fin grid0.N, win0_2.index t = ![t.val % 7, 0]) t
theorem idx3 (t : Fin cfg0.N) : win0_3.index t = ![0, t.val / 7] :=
  (by decide +kernel : ∀ t : Fin grid0.N, win0_3.index t = ![0, t.val / 7]) t
theorem idx4 (t : Fin cfg0.N) : win0_4.index t = ![t.val % 7, t.val / 7] :=
  (by decide +kernel : ∀ t : Fin grid0.N, win0_4.index t = ![t.val % 7, t.val / 7]) t

theorem arr (c : Dev nD) : (dat W c).arrAt 4 cfg0.N
    = G (W c (Proc.devRef .tc main_arg3)) (W c (Proc.devRef .tc main_arg4)) (W c (Proc.devRef .tc main_arg5)) (W c (Proc.devRef .tc main_arg6)) := by
  refine (dat W c).arrAt_eq_of_covers 4 _ (by decide +kernel) fun t hf y => ?_
  blk_simp
  rw [after_4]
  refine (pay1 _ _ _ _ _).trans ?_
  unfold G
  have e4 := idx4 t
  refine congrArg₂ (fun a b : EReal => a + b) (congrArg₂ (fun a b : EReal => a * b) (congrArg (FloatOps.sitofp (F := Ideal) .bf16) (congrArg₂ nib ?_ ?_)) ?_) (congrArg _ (Finset.sum_congr rfl fun k _ => ?_))
  · blk_point [iblk, idx0 t, idx4 t]
  · blk_simp [idx4 t]
    omega
  · blk_point [iblk, idx1 t, idx4 t]
  · blk_point [iblk, idx2 t, idx3 t, idx4 t]

end Cert.KernelIdeal.R0

end
-- ==== Proof.A1.lean ====
module

public import proofs.«01_k».proof.Proof.R1
public import Idealize.ShloMosaic.Lib.Pipeline.ValueKit
public import Idealize.ShloMosaic.Lib.ValueIdx
public import Idealize.ShloMosaic.Lib.Pointwise

/-!
# The value of the region of `_xh_body` over the extended reals
-/

@[expose] public section

set_option maxRecDepth 16384

noncomputable section

namespace Cert.KernelIdeal.R1

open Cert.KernelIdeal.Gen
open Idealize.ShloMosaic Idealize.ShloMosaic.TcCoe Idealize.ShloMosaic.Tactic
open Idealize.ShloMosaic.Pipeline (Dat Cfg Window)

/-- The dequantized activations, of the whole arrays. -/
def G (x : Vec Ideal S8192x7168 .fp8e4m3) (s : Vec Ideal S8192x256 .f32) : Vec Ideal S8192x7168 .bf16 :=
  fun i => (x i : EReal) * (s (ix2 (i 0) ⟨(i 1).val / 32, by have : (i 1).val < 7168 := (i 1).isLt; omega⟩) : EReal)

/-- Their product with `lora_a`. -/
def H (x : Vec Ideal S8192x7168 .fp8e4m3) (s : Vec Ideal S8192x256 .f32) (A : Vec Ideal S7168x96 .bf16) : Vec Ideal S8192x96 .bf16 :=
  fun i => ∑ k : Fin 7168, (G x s (ix2 (i 0) k) : EReal) * (A (ix2 k (i 1)) : EReal)

theorem xhv_apply (x0 : Vec Ideal S256x7168 .fp8e4m3) (x1 : Vec Ideal S256x256 .f32) (y : S256x7168.Idx) :
    (T1.xhv x0 x1 y : EReal) = (x0 y : EReal) * (x1 (ix2 (y 0) ⟨(y 1).val / 32, by have : (y 1).val < 7168 := (y 1).isLt; omega⟩) : EReal) := rfl

theorem pay2 (x0 : Vec Ideal S256x7168 .bf16) (x1 : Vec Ideal S7168x96 .bf16) (y : S256x96.Idx) :
    (k1_pay2 x0 x1 y : EReal) = ∑ k : Fin 7168, (x0 (ix2 (y 0) k) : EReal) * (x1 (ix2 k (y 1)) : EReal) := by
  pointwise [k1_pay2]

variable (W : Dev nD → Valuation τ sig (Elt Ideal))

theorem idx0 (t : Fin cfg1.N) : win1_0.index t = ![t.val, 0] :=
  (by decide +kernel : ∀ t : Fin grid1.N, win1_0.index t = ![t.val, 0]) t
theorem idx1 (t : Fin cfg1.N) : win1_1.index t = ![t.val, 0] :=
  (by decide +kernel : ∀ t : Fin grid1.N, win1_1.index t = ![t.val, 0]) t
theorem idx2 (t : Fin cfg1.N) : win1_2.index t = ![0, 0] :=
  (by decide +kernel : ∀ t : Fin grid1.N, win1_2.index t = ![0, 0]) t
theorem idx3 (t : Fin cfg1.N) : win1_3.index t = ![t.val, 0] :=
  (by decide +kernel : ∀ t : Fin grid1.N, win1_3.index t = ![t.val, 0]) t
theorem idx4 (t : Fin cfg1.N) : win1_4.index t = ![t.val, 0] :=
  (by decide +kernel : ∀ t : Fin grid1.N, win1_4.index t = ![t.val, 0]) t

theorem arr3 (c : Dev nD) : (dat W c).arrAt 3 cfg1.N
    = G (W c (Proc.devRef .tc main_v1)) (W c (Proc.devRef .tc main_v3)) := by
  refine (dat W c).arrAt_eq_of_covers 3 _ (by decide +kernel) fun t hf y => ?_
  blk_simp
  rw [after_3]
  refine (xhv_apply _ _ _).trans ?_
  unfold G
  blk_point [iblk, idx0 t, idx1 t, idx3 t]

theorem arr4 (c : Dev nD) : (dat W c).arrAt 4 cfg1.N
    = H (W c (Proc.devRef .tc main_v1)) (W c (Proc.devRef .tc main_v3)) (W c (Proc.devRef .tc main_arg5)) := by
  refine (dat W c).arrAt_eq_of_covers 4 _ (by decide +kernel) fun t hf y => ?_
  blk_simp
  rw [after_4]
  refine (pay2 _ _ _).trans ?_
  unfold H G
  refine Finset.sum_congr rfl fun k _ => ?_
  rw [xhv_apply]
  blk_point [iblk, idx0 t, idx1 t, idx2 t, idx4 t]

end Cert.KernelIdeal.R1

end
-- ==== Proof.A2.lean ====
module

public import proofs.«01_k».proof.Proof.R2
public import Idealize.ShloMosaic.Lib.Pipeline.ValueKit
public import Idealize.ShloMosaic.Lib.ValueIdx
public import Idealize.ShloMosaic.Lib.Pointwise

/-!
# The value of the region of `_dx_body` over the extended reals
-/

@[expose] public section

set_option maxRecDepth 16384

noncomputable section

namespace Cert.KernelIdeal.R2

open Cert.KernelIdeal.Gen
open Idealize.ShloMosaic Idealize.ShloMosaic.TcCoe Idealize.ShloMosaic.Tactic
open Idealize.ShloMosaic.Pipeline (Dat Cfg Window)

/-- What the region computes, of the whole arrays. -/
def G (dy : Vec Ideal S8192x18432 .bf16) (g : Vec Ideal S1x18432 .f32) (v : Vec Ideal S7168x18432 .bf16) : Vec Ideal S8192x7168 .bf16 :=
  fun i => ∑ n : Fin 18432, ((dy (ix2 (i 0) n) : EReal) * (g (ix2 0 n) : EReal)) * (v (ix2 (i 1) n) : EReal)

/-- One point's product. -/
def term (x0 : Vec Ideal S1024x2048 .bf16) (x1 : Vec Ideal S1x2048 .f32) (x2 : Vec Ideal S1024x2048 .bf16) : Vec Ideal S1024x1024 .f32 :=
  fun y => ∑ j : Fin 2048, ((x0 (ix2 (y 0) j) : EReal) * (x1 (ix2 0 j) : EReal)) * (x2 (ix2 (y 1) j) : EReal)

theorem pay1 (y : S1024x1024.Idx) : (k2_pay1 (F := Ideal) y : EReal) = 0 := by
  pointwise [k2_pay1]

theorem pay2 (x0 : Vec Ideal S1024x2048 .bf16) (x1 : Vec Ideal S1x2048 .f32) (s : Vec Ideal S1024x1024 .f32) (x2 : Vec Ideal S1024x2048 .bf16) (y : S1024x1024.Idx) :
    (k2_pay2 x0 x1 s x2 y : EReal) = (s y : EReal) + (term x0 x1 x2 y : EReal) := by
  pointwise [k2_pay2, term]

variable (W : Dev nD → Valuation τ sig (Elt Ideal))

theorem acc_reset (c : Dev nD) (t : Fin cfg2.N) (h : t.val % 9 = 0) (y) :
    (acc0 W c (t.val + 1) y : EReal) = 0 + (term (iblk W c 0 t) (iblk W c 1 t) (iblk W c 2 t) y : EReal) := by
  rw [acc0_succ W c t _ (fun _ => rfl)]
  unfold step0
  rw [if_pos ((first_iff t).mpr h), pay2, pay1]

theorem acc_step (c : Dev nD) (t : Fin cfg2.N) (h : ¬ t.val % 9 = 0) (y) :
    (acc0 W c (t.val + 1) y : EReal) = (acc0 W c (t.val - 1 + 1) y : EReal) + (term (iblk W c 0 t) (iblk W c 1 t) (iblk W c 2 t) y : EReal) := by
  rw [acc0_succ W c t _ (fun _ => rfl)]
  unfold step0
  rw [if_neg (fun e => h ((first_iff t).mp e)), pay2, Nat.sub_add_cancel (by omega)]

theorem idx0 (t : Fin cfg2.N) : win2_0.index t = ![t.val / 63, t.val % 9] :=
  (by decide +kernel : ∀ t : Fin grid2.N, win2_0.index t = ![t.val / 63, t.val % 9]) t
theorem idx1 (t : Fin cfg2.N) : win2_1.index t = ![0, t.val % 9] :=
  (by decide +kernel : ∀ t : Fin grid2.N, win2_1.index t = ![0, t.val % 9]) t
theorem idx2 (t : Fin cfg2.N) : win2_2.index t = ![t.val / 9 % 7, t.val % 9] :=
  (by decide +kernel : ∀ t : Fin grid2.N, win2_2.index t = ![t.val / 9 % 7, t.val % 9]) t
theorem idx3 (t : Fin cfg2.N) : win2_3.index t = ![t.val / 63, t.val / 9 % 7] :=
  (by decide +kernel : ∀ t : Fin grid2.N, win2_3.index t = ![t.val / 63, t.val / 9 % 7]) t

theorem pay3 (s : Vec Ideal S1024x1024 .f32) (y : S1024x1024.Idx) : (k2_pay3 s y : EReal) = s y := by
  pointwise [k2_pay3]

theorem arr (c : Dev nD) : (dat W c).arrAt 3 cfg2.N
    = G (W c (Proc.devRef .tc main_v0)) (W c (Proc.devRef .tc main_v8)) (W c (Proc.devRef .tc main_v10)) := by
  refine (dat W c).arrAt_eq_of_covers 3 _ (by decide +kernel) fun t hf y => ?_
  have ht := (flush2_3 t).mp hf
  have key := Pipeline.eq_sum_fin_of_reset_step_apply_of_flush (M := EReal) (fun n (_ : n < cfg2.N) => acc0 W c (n + 1)) 9 (fun _ => (0 : EReal)) (fun t => term (iblk W c 0 t) (iblk W c 1 t) (iblk W c 2 t)) (acc_reset W c) (acc_step W c) t ht y
  blk_simp
  rw [after_3]
  refine (pay3 _ _).trans (key.trans ?_)
  rw [zero_add]
  unfold G term
  refine Fin.sum_mul_add_congr fun s k hl => ?_
  blk_point [iblk, idx0 ⟨_, Pipeline.run_point_lt_of_flush t ht s⟩, idx1 ⟨_, Pipeline.run_point_lt_of_flush t ht s⟩, idx2 ⟨_, Pipeline.run_point_lt_of_flush t ht s⟩, idx3 t]

end Cert.KernelIdeal.R2

end
-- ==== Proof.A3.lean ====
module

public import proofs.«01_k».proof.Proof.R3
public import Idealize.ShloMosaic.Lib.Pipeline.ValueKit
public import Idealize.ShloMosaic.Lib.ValueIdx
public import Idealize.ShloMosaic.Lib.Pointwise

/-!
# The value of the region of `_h_body` over the extended reals
-/

@[expose] public section

set_option maxRecDepth 16384

noncomputable section

namespace Cert.KernelIdeal.R3

open Cert.KernelIdeal.Gen
open Idealize.ShloMosaic Idealize.ShloMosaic.TcCoe Idealize.ShloMosaic.Tactic
open Idealize.ShloMosaic.Pipeline (Dat Cfg Window)

/-- What the region computes, of the whole arrays. -/
def G (dy : Vec Ideal S8192x18432 .bf16) (g : Vec Ideal S1x18432 .f32) (v : Vec Ideal S96x18432 .bf16) : Vec Ideal S8192x96 .bf16 :=
  fun i => ∑ n : Fin 18432, ((dy (ix2 (i 0) n) : EReal) * (g (ix2 0 n) : EReal)) * (v (ix2 (i 1) n) : EReal)

/-- One point's product. -/
def term (x0 : Vec Ideal S1024x2048 .bf16) (x1 : Vec Ideal S1x2048 .f32) (x2 : Vec Ideal S96x2048 .bf16) : Vec Ideal S1024x96 .f32 :=
  fun y => ∑ j : Fin 2048, ((x0 (ix2 (y 0) j) : EReal) * (x1 (ix2 0 j) : EReal)) * (x2 (ix2 (y 1) j) : EReal)

theorem pay1 (y : S1024x96.Idx) : (k3_pay1 (F := Ideal) y : EReal) = 0 := by
  pointwise [k3_pay1]

theorem pay2 (x0 : Vec Ideal S1024x2048 .bf16) (x1 : Vec Ideal S1x2048 .f32) (s : Vec Ideal S1024x96 .f32) (x2 : Vec Ideal S96x2048 .bf16) (y : S1024x96.Idx) :
    (k3_pay2 x0 x1 s x2 y : EReal) = (s y : EReal) + (term x0 x1 x2 y : EReal) := by
  pointwise [k3_pay2, term]

variable (W : Dev nD → Valuation τ sig (Elt Ideal))

theorem acc_reset (c : Dev nD) (t : Fin cfg3.N) (h : t.val % 9 = 0) (y) :
    (acc0 W c (t.val + 1) y : EReal) = 0 + (term (iblk W c 0 t) (iblk W c 1 t) (iblk W c 2 t) y : EReal) := by
  rw [acc0_succ W c t _ (fun _ => rfl)]
  unfold step0
  rw [if_pos ((first_iff t).mpr h), pay2, pay1]

theorem acc_step (c : Dev nD) (t : Fin cfg3.N) (h : ¬ t.val % 9 = 0) (y) :
    (acc0 W c (t.val + 1) y : EReal) = (acc0 W c (t.val - 1 + 1) y : EReal) + (term (iblk W c 0 t) (iblk W c 1 t) (iblk W c 2 t) y : EReal) := by
  rw [acc0_succ W c t _ (fun _ => rfl)]
  unfold step0
  rw [if_neg (fun e => h ((first_iff t).mp e)), pay2, Nat.sub_add_cancel (by omega)]

theorem idx0 (t : Fin cfg3.N) : win3_0.index t = ![t.val / 9, t.val % 9] :=
  (by decide +kernel : ∀ t : Fin grid3.N, win3_0.index t = ![t.val / 9, t.val % 9]) t
theorem idx1 (t : Fin cfg3.N) : win3_1.index t = ![0, t.val % 9] :=
  (by decide +kernel : ∀ t : Fin grid3.N, win3_1.index t = ![0, t.val % 9]) t
theorem idx2 (t : Fin cfg3.N) : win3_2.index t = ![0, t.val % 9] :=
  (by decide +kernel : ∀ t : Fin grid3.N, win3_2.index t = ![0, t.val % 9]) t
theorem idx3 (t : Fin cfg3.N) : win3_3.index t = ![t.val / 9, 0] :=
  (by decide +kernel : ∀ t : Fin grid3.N, win3_3.index t = ![t.val / 9, 0]) t

theorem pay3 (s : Vec Ideal S1024x96 .f32) (y : S1024x96.Idx) : (k3_pay3 s y : EReal) = s y := by
  pointwise [k3_pay3]

theorem arr (c : Dev nD) : (dat W c).arrAt 3 cfg3.N
    = G (W c (Proc.devRef .tc main_v0)) (W c (Proc.devRef .tc main_v8)) (W c (Proc.devRef .tc main_arg6)) := by
  refine (dat W c).arrAt_eq_of_covers 3 _ (by decide +kernel) fun t hf y => ?_
  have ht := (flush3_3 t).mp hf
  have key := Pipeline.eq_sum_fin_of_reset_step_apply_of_flush (M := EReal) (fun n (_ : n < cfg3.N) => acc0 W c (n + 1)) 9 (fun _ => (0 : EReal)) (fun t => term (iblk W c 0 t) (iblk W c 1 t) (iblk W c 2 t)) (acc_reset W c) (acc_step W c) t ht y
  blk_simp
  rw [after_3]
  refine (pay3 _ _).trans (key.trans ?_)
  rw [zero_add]
  unfold G term
  refine Fin.sum_mul_add_congr fun s k hl => ?_
  blk_point [iblk, idx0 ⟨_, Pipeline.run_point_lt_of_flush t ht s⟩, idx1 ⟨_, Pipeline.run_point_lt_of_flush t ht s⟩, idx2 ⟨_, Pipeline.run_point_lt_of_flush t ht s⟩, idx3 t]

end Cert.KernelIdeal.R3

end
-- ==== Proof.A4.lean ====
module

public import proofs.«01_k».proof.Proof.R4
public import Idealize.ShloMosaic.Lib.Pipeline.ValueKit
public import Idealize.ShloMosaic.Lib.ValueIdx
public import Idealize.ShloMosaic.Lib.Pointwise

/-!
# The value of the region of `_da_body` over the extended reals
-/

@[expose] public section

set_option maxRecDepth 16384

noncomputable section

namespace Cert.KernelIdeal.R4

open Cert.KernelIdeal.Gen
open Idealize.ShloMosaic Idealize.ShloMosaic.TcCoe Idealize.ShloMosaic.Tactic
open Idealize.ShloMosaic.Pipeline (Dat Cfg Window)

/-- What the region computes, of the whole arrays. -/
def G (xh : Vec Ideal S8192x7168 .bf16) (h : Vec Ideal S8192x96 .bf16) : Vec Ideal S7168x96 .bf16 :=
  fun i => (Ideal.ofBits .f32 0x3F000000#32 : EReal) * ∑ n : Fin 8192, (xh (ix2 n (i 0)) : EReal) * (h (ix2 n (i 1)) : EReal)

/-- One point's product. -/
def term (x0 : Vec Ideal S1024x1024 .bf16) (x1 : Vec Ideal S1024x96 .bf16) : Vec Ideal S1024x96 .f32 :=
  fun y => ∑ j : Fin 1024, (x0 (ix2 j (y 0)) : EReal) * (x1 (ix2 j (y 1)) : EReal)

theorem pay1 (y : S1024x96.Idx) : (k4_pay1 (F := Ideal) y : EReal) = 0 := by
  pointwise [k4_pay1]

theorem pay2 (s : Vec Ideal S1024x96 .f32) (x0 : Vec Ideal S1024x1024 .bf16) (x1 : Vec Ideal S1024x96 .bf16) (y : S1024x96.Idx) :
    (k4_pay2 s x0 x1 y : EReal) = (s y : EReal) + (term x0 x1 y : EReal) := by
  pointwise [k4_pay2, term]

theorem pay3 (s : Vec Ideal S1024x96 .f32) (y : S1024x96.Idx) : (k4_pay3 s y : EReal) = (Ideal.ofBits .f32 0x3F000000#32 : EReal) * s y := by
  pointwise [k4_pay3]

variable (W : Dev nD → Valuation τ sig (Elt Ideal))

theorem acc_reset (c : Dev nD) (t : Fin cfg4.N) (h : t.val % 8 = 0) (y) :
    (acc0 W c (t.val + 1) y : EReal) = 0 + (term (iblk W c 0 t) (iblk W c 1 t) y : EReal) := by
  rw [acc0_succ W c t _ (fun _ => rfl)]
  unfold step0
  rw [if_pos ((first_iff t).mpr h), pay2, pay1]

theorem acc_step (c : Dev nD) (t : Fin cfg4.N) (h : ¬ t.val % 8 = 0) (y) :
    (acc0 W c (t.val + 1) y : EReal) = (acc0 W c (t.val - 1 + 1) y : EReal) + (term (iblk W c 0 t) (iblk W c 1 t) y : EReal) := by
  rw [acc0_succ W c t _ (fun _ => rfl)]
  unfold step0
  rw [if_neg (fun e => h ((first_iff t).mp e)), pay2, Nat.sub_add_cancel (by omega)]

theorem idx0 (t : Fin cfg4.N) : win4_0.index t = ![t.val % 8, t.val / 8] :=
  (by decide +kernel : ∀ t : Fin grid4.N, win4_0.index t = ![t.val % 8, t.val / 8]) t
theorem idx1 (t : Fin cfg4.N) : win4_1.index t = ![t.val % 8, 0] :=
  (by decide +kernel : ∀ t : Fin grid4.N, win4_1.index t = ![t.val % 8, 0]) t
theorem idx2 (t : Fin cfg4.N) : win4_2.index t = ![t.val / 8, 0] :=
  (by decide +kernel : ∀ t : Fin grid4.N, win4_2.index t = ![t.val / 8, 0]) t

theorem arr (c : Dev nD) : (dat W c).arrAt 2 cfg4.N
    = G (W c (Proc.devRef .tc main_v11_0)) (W c (Proc.devRef .tc main_v13)) := by
  refine (dat W c).arrAt_eq_of_covers 2 _ (by decide +kernel) fun t hf y => ?_
  have ht := (flush4_2 t).mp hf
  have key := Pipeline.eq_sum_fin_of_reset_step_apply_of_flush (M := EReal) (fun n (_ : n < cfg4.N) => acc0 W c (n + 1)) 8 (fun _ => (0 : EReal)) (fun t => term (iblk W c 0 t) (iblk W c 1 t)) (acc_reset W c) (acc_step W c) t ht y
  blk_simp
  rw [after_2]
  refine (pay3 _ _).trans ?_
  unfold G
  refine congrArg _ (key.trans ?_)
  rw [zero_add]
  unfold term
  refine Fin.sum_mul_add_congr fun s k hl => ?_
  blk_point [iblk, idx0 ⟨_, Pipeline.run_point_lt_of_flush t ht s⟩, idx1 ⟨_, Pipeline.run_point_lt_of_flush t ht s⟩, idx2 t]

end Cert.KernelIdeal.R4

end
-- ==== Proof.A5.lean ====
module

public import proofs.«01_k».proof.Proof.R5
public import Idealize.ShloMosaic.Lib.Pipeline.ValueKit
public import Idealize.ShloMosaic.Lib.ValueIdx
public import Idealize.ShloMosaic.Lib.Pointwise

/-!
# The value of the region of `_dm_body` over the extended reals
-/

@[expose] public section

set_option maxRecDepth 16384

noncomputable section

namespace Cert.KernelIdeal.R5

open Cert.KernelIdeal.Gen
open Idealize.ShloMosaic Idealize.ShloMosaic.TcCoe Idealize.ShloMosaic.Tactic
open Idealize.ShloMosaic.Pipeline (Dat Cfg Window)

/-- The norms with 1 in place of 0. -/
def safe (x : EReal) : EReal := if x = 0 then 1 else x

/-- The gradient of the magnitudes, of the whole arrays. -/
def G (dy : Vec Ideal S8192x18432 .bf16) (nrm : Vec Ideal S1x18432 .f32) (xh : Vec Ideal S8192x7168 .bf16) (v : Vec Ideal S7168x18432 .bf16) : Vec Ideal S1x18432 .f32 :=
  fun i => Ideal.div (∑ t : Fin 8192, (dy (ix2 t (i 1)) : EReal) * ∑ k : Fin 7168, (xh (ix2 t k) : EReal) * (v (ix2 k (i 1)) : EReal)) (safe (nrm (ix2 0 (i 1))))

/-- The gradient of `lora_b`, of the whole arrays. -/
def H (dy : Vec Ideal S8192x18432 .bf16) (g : Vec Ideal S1x18432 .f32) (xa : Vec Ideal S8192x96 .bf16) : Vec Ideal S96x18432 .bf16 :=
  fun i => (Ideal.ofBits .f32 0x3F000000#32 : EReal) * ∑ t : Fin 8192, (xa (ix2 t (i 0)) : EReal) * ((dy (ix2 t (i 1)) : EReal) * (g (ix2 0 (i 1)) : EReal))

/-- One point's sums, by the token's residue modulo 8. -/
def term0 (x0 : Vec Ideal S512x1024 .bf16) (x3 : Vec Ideal S512x7168 .bf16) (x4 : Vec Ideal S7168x1024 .bf16) : Vec Ideal S8x1024 .f32 :=
  fun y => ∑ q : Fin 64, (x0 (ix2 ⟨q.val * 8 + (y 0).val, by have := (show (y 0).val < 8 from (y 0).isLt); have := q.isLt; omega⟩ (y 1)) : EReal)
    * ∑ k : Fin 7168, (x3 (ix2 ⟨q.val * 8 + (y 0).val, by have := (show (y 0).val < 8 from (y 0).isLt); have := q.isLt; omega⟩ k) : EReal) * (x4 (ix2 k (y 1)) : EReal)

/-- One point's product. -/
def term1 (x0 : Vec Ideal S512x1024 .bf16) (x1 : Vec Ideal S1x1024 .f32) (x5 : Vec Ideal S512x96 .bf16) : Vec Ideal S96x1024 .f32 :=
  fun y => ∑ j : Fin 512, (x5 (ix2 j (y 0)) : EReal) * ((x0 (ix2 j (y 1)) : EReal) * (x1 (ix2 0 (y 1)) : EReal))

theorem pay3 (y : S8x1024.Idx) : (k5_pay3 (F := Ideal) y : EReal) = 0 := by
  pointwise [k5_pay3]

theorem pay4 (y : S96x1024.Idx) : (k5_pay4 (F := Ideal) y : EReal) = 0 := by
  pointwise [k5_pay4]

theorem pay6 (x0 : Vec Ideal S512x1024 .bf16) (x3 : Vec Ideal S512x7168 .bf16) (x4 : Vec Ideal S7168x1024 .bf16) (s : Vec Ideal S8x1024 .f32) (y : S8x1024.Idx) :
    (k5_pay6 x3 x4 x0 s y : EReal) = (s y : EReal) + (term0 x0 x3 x4 y : EReal) := by
  pointwise [k5_pay6, k5_pay5, term0]

theorem pay7 (x0 : Vec Ideal S512x1024 .bf16) (x1 : Vec Ideal S1x1024 .f32) (s : Vec Ideal S96x1024 .f32) (x5 : Vec Ideal S512x96 .bf16) (y : S96x1024.Idx) :
    (k5_pay7 x0 x1 s x5 y : EReal) = (s y : EReal) + (term1 x0 x1 x5 y : EReal) := by
  pointwise [k5_pay7, k5_pay5, term1]

theorem pay1 (x2 : Vec Ideal S1x1024 .f32) (s : Vec Ideal S8x1024 .f32) (y : S1x1024.Idx) :
    (k5_pay1 x2 s y : EReal) = Ideal.div (∑ r : Fin 8, (s (ix2 r (y 1)) : EReal)) (safe (x2 y)) := by
  pointwise [k5_pay1, safe]

theorem pay2 (s : Vec Ideal S96x1024 .f32) (y : S96x1024.Idx) : (k5_pay2 s y : EReal) = (Ideal.ofBits .f32 0x3F000000#32 : EReal) * s y := by
  pointwise [k5_pay2]

variable (W : Dev nD → Valuation τ sig (Elt Ideal))

theorem acc0_reset (c : Dev nD) (t : Fin cfg5.N) (h : t.val % 16 = 0) (y) :
    (acc0 W c (t.val + 1) y : EReal) = 0 + (term0 (iblk W c 0 t) (iblk W c 3 t) (iblk W c 4 t) y : EReal) := by
  rw [acc0_succ W c t _ (fun _ => rfl)]
  unfold step0
  rw [if_pos ((first_iff t).mpr h), pay6, pay3]

theorem acc0_step (c : Dev nD) (t : Fin cfg5.N) (h : ¬ t.val % 16 = 0) (y) :
    (acc0 W c (t.val + 1) y : EReal) = (acc0 W c (t.val - 1 + 1) y : EReal) + (term0 (iblk W c 0 t) (iblk W c 3 t) (iblk W c 4 t) y : EReal) := by
  rw [acc0_succ W c t _ (fun _ => rfl)]
  unfold step0
  rw [if_neg (fun e => h ((first_iff t).mp e)), pay6, Nat.sub_add_cancel (by omega)]

theorem acc1_reset (c : Dev nD) (t : Fin cfg5.N) (h : t.val % 16 = 0) (y) :
    (acc1 W c (t.val + 1) y : EReal) = 0 + (term1 (iblk W c 0 t) (iblk W c 1 t) (iblk W c 5 t) y : EReal) := by
  rw [acc1_succ W c t _ (fun _ => rfl)]
  unfold step1
  rw [if_pos ((first_iff t).mpr h), pay7, pay4]

theorem acc1_step (c : Dev nD) (t : Fin cfg5.N) (h : ¬ t.val % 16 = 0) (y) :
    (acc1 W c (t.val + 1) y : EReal) = (acc1 W c (t.val - 1 + 1) y : EReal) + (term1 (iblk W c 0 t) (iblk W c 1 t) (iblk W c 5 t) y : EReal) := by
  rw [acc1_succ W c t _ (fun _ => rfl)]
  unfold step1
  rw [if_neg (fun e => h ((first_iff t).mp e)), pay7, Nat.sub_add_cancel (by omega)]

theorem idx0 (t : Fin cfg5.N) : win5_0.index t = ![t.val % 16, t.val / 16] :=
  (by decide +kernel : ∀ t : Fin grid5.N, win5_0.index t = ![t.val % 16, t.val / 16]) t
theorem idx1 (t : Fin cfg5.N) : win5_1.index t = ![0, t.val / 16] :=
  (by decide +kernel : ∀ t : Fin grid5.N, win5_1.index t = ![0, t.val / 16]) t
theorem idx2 (t : Fin cfg5.N) : win5_2.index t = ![0, t.val / 16] :=
  (by decide +kernel : ∀ t : Fin grid5.N, win5_2.index t = ![0, t.val / 16]) t
theorem idx3 (t : Fin cfg5.N) : win5_3.index t = ![t.val % 16, 0] :=
  (by decide +kernel : ∀ t : Fin grid5.N, win5_3.index t = ![t.val % 16, 0]) t
theorem idx4 (t : Fin cfg5.N) : win5_4.index t = ![0, t.val / 16] :=
  (by decide +kernel : ∀ t : Fin grid5.N, win5_4.index t = ![0, t.val / 16]) t
theorem idx5 (t : Fin cfg5.N) : win5_5.index t = ![t.val % 16, 0] :=
  (by decide +kernel : ∀ t : Fin grid5.N, win5_5.index t = ![t.val % 16, 0]) t
theorem idx6 (t : Fin cfg5.N) : win5_6.index t = ![0, t.val / 16] :=
  (by decide +kernel : ∀ t : Fin grid5.N, win5_6.index t = ![0, t.val / 16]) t
theorem idx7 (t : Fin cfg5.N) : win5_7.index t = ![0, t.val / 16] :=
  (by decide +kernel : ∀ t : Fin grid5.N, win5_7.index t = ![0, t.val / 16]) t

theorem arr7 (c : Dev nD) : (dat W c).arrAt 7 cfg5.N
    = H (W c (Proc.devRef .tc main_v0)) (W c (Proc.devRef .tc main_v8)) (W c (Proc.devRef .tc main_v11_1)) := by
  refine (dat W c).arrAt_eq_of_covers 7 _ (by decide +kernel) fun t hf y => ?_
  have ht := (flush5_7 t).mp hf
  have key := Pipeline.eq_sum_fin_of_reset_step_apply_of_flush (M := EReal) (fun n (_ : n < cfg5.N) => acc1 W c (n + 1)) 16 (fun _ => (0 : EReal)) (fun t => term1 (iblk W c 0 t) (iblk W c 1 t) (iblk W c 5 t)) (acc1_reset W c) (acc1_step W c) t ht y
  blk_simp
  rw [after_7]
  refine (pay2 _ _).trans ?_
  unfold H
  refine congrArg _ (key.trans ?_)
  rw [zero_add]
  unfold term1
  refine Fin.sum_mul_add_congr fun s k hl => ?_
  blk_point [iblk, idx0 ⟨_, Pipeline.run_point_lt_of_flush t ht s⟩, idx1 ⟨_, Pipeline.run_point_lt_of_flush t ht s⟩, idx5 ⟨_, Pipeline.run_point_lt_of_flush t ht s⟩, idx7 t]

theorem arr6 (c : Dev nD) : (dat W c).arrAt 6 cfg5.N
    = G (W c (Proc.devRef .tc main_v0)) (W c (Proc.devRef .tc main_v9)) (W c (Proc.devRef .tc main_v11_0)) (W c (Proc.devRef .tc main_v10)) := by
  refine (dat W c).arrAt_eq_of_covers 6 _ (by decide +kernel) fun t hf y => ?_
  have ht := (flush5_6 t).mp hf
  have key := Pipeline.eq_sum_fin_of_reset_step_apply_of_flush (M := EReal) (fun n (_ : n < cfg5.N) => acc0 W c (n + 1)) 16 (fun _ => (0 : EReal)) (fun t => term0 (iblk W c 0 t) (iblk W c 3 t) (iblk W c 4 t)) (acc0_reset W c) (acc0_step W c) t ht
  blk_simp
  rw [after_6]
  refine (pay1 _ _ _).trans ?_
  unfold G
  refine congrArg₂ Ideal.div ?_ (congrArg safe ?_)
  · simp only [key, zero_add]
    rw [Finset.sum_comm]
    unfold term0
    refine Eq.trans ?_ (Fin.sum_mul_add_fin (L := 8192) 16 512 _)
    refine Finset.sum_congr rfl fun s _ => ?_
    rw [Finset.sum_comm]
    refine Fin.sum_mul_add_congr fun q r hl => ?_
    blk_point [iblk, idx0 ⟨_, Pipeline.run_point_lt_of_flush t ht s⟩, idx3 ⟨_, Pipeline.run_point_lt_of_flush t ht s⟩, idx4 ⟨_, Pipeline.run_point_lt_of_flush t ht s⟩, idx6 t]
  · blk_point [iblk, idx2 t, idx6 t]

end Cert.KernelIdeal.R5

end
-- ==== Proof.KVal.lean ====
module

public import proofs.«01_k».proof.Proof.Run
public import proofs.«01_k».proof.Proof.Spec
public import proofs.«01_k».proof.Proof.A0
public import proofs.«01_k».proof.Proof.A1
public import proofs.«01_k».proof.Proof.A2
public import proofs.«01_k».proof.Proof.A3
public import proofs.«01_k».proof.Proof.A4
public import proofs.«01_k».proof.Proof.A5
public import Idealize.ShloMosaic.Lib.Claim
public import Idealize.ShloMosaic.Lib.IdealHost

/-!
# The kernel's results over the extended reals
-/

@[expose] public section

set_option maxRecDepth 16384

noncomputable section

namespace Cert.KernelIdeal.All

open Cert.KernelIdeal.Gen
open Idealize.ShloMosaic Idealize.ShloMosaic.TcCoe Idealize.ShloMosaic.Tactic

variable (m : (x : Loc nD τ sig) → Buf (Elt Ideal) x) (c : Dev nD)

/-- The arguments as launched. -/
def ar : Spec.Args where
  dy b s n := (m (c, Proc.devRef .tc main_arg0) : Vec Ideal S2x4096x18432 .bf16) (ix3 b s n)
  xc b s k := (m (c, Proc.devRef .tc main_arg1) : Vec Ideal S2x4096x7168 .fp8e4m3) (ix3 b s k)
  xs b s g := (m (c, Proc.devRef .tc main_arg2) : Vec Ideal S2x4096x224 .f32) (ix3 b s g)
  w j n := (m (c, Proc.devRef .tc main_arg3) : Vec Ideal S3584x18432 .i8) (ix2 j n)
  ws g n := (m (c, Proc.devRef .tc main_arg4) : Vec Ideal S56x18432 .bf16) (ix2 g n)
  A k r := (m (c, Proc.devRef .tc main_arg5) : Vec Ideal S7168x96 .bf16) (ix2 k r)
  B r n := (m (c, Proc.devRef .tc main_arg6) : Vec Ideal S96x18432 .bf16) (ix2 r n)
  mag n := (m (c, Proc.devRef .tc main_arg7) : Vec Ideal S18432 .f32) (ix1 n)
  nrm n := (m (c, Proc.devRef .tc main_arg8) : Vec Ideal S18432 .f32) (ix1 n)

theorem w0_arg3 : W0 m c (Proc.devRef .tc main_arg3) = m (c, Proc.devRef .tc main_arg3) := by
  unfold W0; rw [V5_of m c main_arg3 (by decide), V4_of m c main_arg3 (by decide), V3_of m c main_arg3 (by decide), V2_of m c main_arg3 (by decide), V1_of m c main_arg3 (by decide)]
theorem w0_arg4 : W0 m c (Proc.devRef .tc main_arg4) = m (c, Proc.devRef .tc main_arg4) := by
  unfold W0; rw [V5_of m c main_arg4 (by decide), V4_of m c main_arg4 (by decide), V3_of m c main_arg4 (by decide), V2_of m c main_arg4 (by decide), V1_of m c main_arg4 (by decide)]
theorem w0_arg5 : W0 m c (Proc.devRef .tc main_arg5) = m (c, Proc.devRef .tc main_arg5) := by
  unfold W0; rw [V5_of m c main_arg5 (by decide), V4_of m c main_arg5 (by decide), V3_of m c main_arg5 (by decide), V2_of m c main_arg5 (by decide), V1_of m c main_arg5 (by decide)]
theorem w0_arg6 : W0 m c (Proc.devRef .tc main_arg6) = m (c, Proc.devRef .tc main_arg6) := by
  unfold W0; rw [V5_of m c main_arg6 (by decide), V4_of m c main_arg6 (by decide), V3_of m c main_arg6 (by decide), V2_of m c main_arg6 (by decide), V1_of m c main_arg6 (by decide)]

theorem w0_v0 : W0 m c (Proc.devRef .tc main_v0) = shapeCast S8192x18432 (m (c, Proc.devRef .tc main_arg0) : Vec Ideal S2x4096x18432 .bf16) shapeCasts_S2x4096x18432_S8192x18432 := by
  unfold W0; rw [V5_of m c main_v0 (by decide), V4_of m c main_v0 (by decide), V3_of m c main_v0 (by decide), V2_of m c main_v0 (by decide)]
  unfold V1
  entry_read
  rfl
theorem w0_v1 : W0 m c (Proc.devRef .tc main_v1) = shapeCast S8192x7168 (m (c, Proc.devRef .tc main_arg1) : Vec Ideal S2x4096x7168 .fp8e4m3) shapeCasts_S2x4096x7168_S8192x7168 := by
  unfold W0; rw [V5_of m c main_v1 (by decide), V4_of m c main_v1 (by decide), V3_of m c main_v1 (by decide), V2_of m c main_v1 (by decide)]
  unfold V1
  entry_read
  rfl
/-- The activations' scales, padded to a row of 256. -/
def padS (s : FVec Ideal S2x4096x224 .f32) : FVec Ideal S8192x256 .f32 :=
  pad S8192x256 ![0, 0] ![0, 32] ![0, 0] (shapeCast S8192x224 s shapeCasts_S2x4096x224_S8192x224) (sitofp (F := Ideal) .f32 (constantI S_ 32 0#32) : FVec Ideal S_ .f32) pads_S8192x224_S8192x256_000_0320 h_S_
/-- A vector over the columns as one row. -/
def row (v : FVec Ideal S18432 .f32) : FVec Ideal S1x18432 .f32 := shapeCast S1x18432 v shapeCasts_S18432_S1x18432
/-- The magnitudes over the norms, one in place of a zero norm. -/
def gain (mag nrm : FVec Ideal S18432 .f32) : FVec Ideal S18432 .f32 :=
  Host.divf mag (select (cmpf .oeq nrm (broadcastInDim S18432 ![] bcast_S_S18432 (constant S_ .f32 0x00000000#32)))
    (broadcastInDim S18432 ![] bcast_S_S18432 (constant S_ .f32 0x3F800000#32)) nrm)

theorem w0_v3 : W0 m c (Proc.devRef .tc main_v3) = padS (m (c, Proc.devRef .tc main_arg2)) := by
  unfold W0; rw [V5_of m c main_v3 (by decide), V4_of m c main_v3 (by decide), V3_of m c main_v3 (by decide)]
  unfold V2 V1
  entry_read
  rfl
theorem w0_v8 : W0 m c (Proc.devRef .tc main_v8) = row (gain (m (c, Proc.devRef .tc main_arg7)) (m (c, Proc.devRef .tc main_arg8))) := by
  unfold W0 V5 V4 V3 V2 V1
  entry_read
  rfl
theorem w0_v9 : W0 m c (Proc.devRef .tc main_v9) = row (m (c, Proc.devRef .tc main_arg8)) := by
  unfold W0 V5 V4 V3 V2 V1
  entry_read
  rfl

/-! ## The host's values at an index -/

theorem padS_at (x : FVec Ideal S2x4096x224 .f32) (b : Fin 2) (s : Fin 4096) (g : Fin 224) : (padS x (ix2 (Spec.tok b s) ⟨g.val, by omega⟩) : EReal) = x (ix3 b s g) := by
  unfold padS
  generalize hz : shapeCast S8192x224 x shapeCasts_S2x4096x224_S8192x224 = z
  have e : z (ix2 (Spec.tok b s) g) = x (ix3 b s g) := by
    rw [← hz]
    exact shapeCast_apply _ _ (ix2 (Spec.tok b s) g) (ix3 b s g) (by
      rewrite [Shape.rowMajor_val_three, Shape.rowMajor_val_two]
      rfl)
  rw [← e]
  pointwise []
theorem row_at (v : FVec Ideal S18432 .f32) (n : Fin 18432) : (row v (ix2 0 n) : EReal) = v (ix1 n) := by
  pointwise [row]
theorem gain_at (mag nrm : FVec Ideal S18432 .f32) (n : Fin 18432) : (gain mag nrm (ix1 n) : EReal) = Ideal.div (mag (ix1 n)) (Spec.safe (nrm (ix1 n))) := by
  unfold Spec.safe
  pointwise [gain]

theorem v0_at (b : Fin 2) (s : Fin 4096) (n : Fin 18432) : ((W0 m c (Proc.devRef .tc main_v0) : Vec Ideal S8192x18432 .bf16) (ix2 (Spec.tok b s) n) : EReal) = (ar m c).dy b s n := by
  rw [w0_v0]
  exact shapeCast_apply _ _ (ix2 (Spec.tok b s) n) (ix3 b s n) (by
    rewrite [Shape.rowMajor_val_three, Shape.rowMajor_val_two]
    rfl)
theorem v1_at (b : Fin 2) (s : Fin 4096) (k : Fin 7168) : ((W0 m c (Proc.devRef .tc main_v1) : Vec Ideal S8192x7168 .fp8e4m3) (ix2 (Spec.tok b s) k) : EReal) = (ar m c).xc b s k := by
  rw [w0_v1]
  exact shapeCast_apply _ _ (ix2 (Spec.tok b s) k) (ix3 b s k) (by
    rewrite [Shape.rowMajor_val_three, Shape.rowMajor_val_two]
    rfl)
theorem v3_at (b : Fin 2) (s : Fin 4096) (g : Fin 224) : ((W0 m c (Proc.devRef .tc main_v3) : Vec Ideal S8192x256 .f32) (ix2 (Spec.tok b s) ⟨g.val, by omega⟩) : EReal) = (ar m c).xs b s g := by
  rw [w0_v3]
  exact padS_at _ b s g
theorem v8_at (n : Fin 18432) : ((W0 m c (Proc.devRef .tc main_v8) : Vec Ideal S1x18432 .f32) (ix2 0 n) : EReal) = Ideal.div ((ar m c).mag n) (Spec.safe ((ar m c).nrm n)) := by
  rw [w0_v8]
  exact (row_at _ n).trans (gain_at _ _ n)
theorem v9_at (n : Fin 18432) : ((W0 m c (Proc.devRef .tc main_v9) : Vec Ideal S1x18432 .f32) (ix2 0 n) : EReal) = (ar m c).nrm n := by
  rw [w0_v9]
  exact row_at _ n

end Cert.KernelIdeal.All

end
-- ==== Proof.KRes.lean ====
module

public import proofs.«01_k».proof.Proof.KVal

/-!
# The kernel's results are the four gradients

Each region's array is read at a token `Spec.tok b s`, and its sum over all tokens is split by sequence.
-/

@[expose] public section

set_option maxRecDepth 16384

noncomputable section

namespace Cert.KernelIdeal.All

open Cert.KernelIdeal.Gen
open Idealize.ShloMosaic Idealize.ShloMosaic.TcCoe Idealize.ShloMosaic.Tactic

/-! ## One region's value from what it reads -/

section
variable (a : Spec.Args)

theorem G0 (w : Vec Ideal S3584x18432 .i8) (s : Vec Ideal S56x18432 .bf16) (A : Vec Ideal S7168x96 .bf16) (B : Vec Ideal S96x18432 .bf16)
    (hw : ∀ j n, w (ix2 j n) = a.w j n) (hs : ∀ g n, (s (ix2 g n) : EReal) = a.ws g n) (hA : ∀ k r, (A (ix2 k r) : EReal) = a.A k r) (hB : ∀ r n, (B (ix2 r n) : EReal) = a.B r n)
    (k : Fin 7168) (n : Fin 18432) : (R0.G w s A B (ix2 k n) : EReal) = Spec.V a k n := by
  show (FloatOps.sitofp (F := Ideal) .bf16 (R0.nib (w (ix2 ⟨k.val / 2, _⟩ n)) (k.val % 2)) : EReal) * (s (ix2 ⟨k.val / 128, _⟩ n) : EReal)
    + (Ideal.ofBits .f32 0x3F000000#32 : EReal) * ∑ r : Fin 96, (A (ix2 k r) : EReal) * (B (ix2 r n) : EReal) = _
  simp only [hw, hs, hA, hB]
  rfl

theorem G1 (x : Vec Ideal S8192x7168 .fp8e4m3) (s : Vec Ideal S8192x256 .f32)
    (hx : ∀ b t k, (x (ix2 (Spec.tok b t) k) : EReal) = a.xc b t k) (hs : ∀ b t (g : Fin 224), (s (ix2 (Spec.tok b t) ⟨g.val, by omega⟩) : EReal) = a.xs b t g)
    (b : Fin 2) (t : Fin 4096) (k : Fin 7168) : (R1.G x s (ix2 (Spec.tok b t) k) : EReal) = Spec.xh a b t k := by
  show (x (ix2 (Spec.tok b t) k) : EReal) * (s (ix2 (Spec.tok b t) ⟨k.val / 32, _⟩) : EReal) = _
  rw [hx]
  exact congrArg (fun q => a.xc b t k * q) (hs b t ⟨k.val / 32, by omega⟩)

theorem H1 (x : Vec Ideal S8192x7168 .fp8e4m3) (s : Vec Ideal S8192x256 .f32) (A : Vec Ideal S7168x96 .bf16)
    (hG : ∀ b t k, (R1.G x s (ix2 (Spec.tok b t) k) : EReal) = Spec.xh a b t k) (hA : ∀ k r, (A (ix2 k r) : EReal) = a.A k r)
    (b : Fin 2) (t : Fin 4096) (r : Fin 96) : (R1.H x s A (ix2 (Spec.tok b t) r) : EReal) = ∑ k : Fin 7168, Spec.xh a b t k * a.A k r := by
  show ∑ k : Fin 7168, (R1.G x s (ix2 (Spec.tok b t) k) : EReal) * (A (ix2 k r) : EReal) = _
  simp only [hG, hA]

theorem G2 (dy : Vec Ideal S8192x18432 .bf16) (g : Vec Ideal S1x18432 .f32) (v : Vec Ideal S7168x18432 .bf16)
    (hd : ∀ b t n, (dy (ix2 (Spec.tok b t) n) : EReal) = a.dy b t n) (hg : ∀ n, (g (ix2 0 n) : EReal) = Ideal.div (a.mag n) (Spec.safe (a.nrm n)))
    (hv : ∀ k n, (v (ix2 k n) : EReal) = Spec.V a k n)
    (b : Fin 2) (t : Fin 4096) (k : Fin 7168) : (R2.G dy g v (ix2 (Spec.tok b t) k) : EReal) = Spec.dx a b t k := by
  show ∑ n : Fin 18432, ((dy (ix2 (Spec.tok b t) n) : EReal) * (g (ix2 0 n) : EReal)) * (v (ix2 k n) : EReal) = _
  simp only [hd, hg, hv]
  rfl

theorem G3 (dy : Vec Ideal S8192x18432 .bf16) (g : Vec Ideal S1x18432 .f32) (B : Vec Ideal S96x18432 .bf16)
    (hd : ∀ b t n, (dy (ix2 (Spec.tok b t) n) : EReal) = a.dy b t n) (hg : ∀ n, (g (ix2 0 n) : EReal) = Ideal.div (a.mag n) (Spec.safe (a.nrm n)))
    (hB : ∀ r n, (B (ix2 r n) : EReal) = a.B r n)
    (b : Fin 2) (t : Fin 4096) (r : Fin 96) : (R3.G dy g B (ix2 (Spec.tok b t) r) : EReal) = ∑ n : Fin 18432, Spec.dyp a b t n * a.B r n := by
  show ∑ n : Fin 18432, ((dy (ix2 (Spec.tok b t) n) : EReal) * (g (ix2 0 n) : EReal)) * (B (ix2 r n) : EReal) = _
  simp only [hd, hg, hB]
  rfl

theorem G4 (xh : Vec Ideal S8192x7168 .bf16) (h : Vec Ideal S8192x96 .bf16)
    (hx : ∀ b t k, (xh (ix2 (Spec.tok b t) k) : EReal) = Spec.xh a b t k)
    (hh : ∀ b t r, (h (ix2 (Spec.tok b t) r) : EReal) = ∑ n : Fin 18432, Spec.dyp a b t n * a.B r n)
    (k : Fin 7168) (r : Fin 96) : (R4.G xh h (ix2 k r) : EReal) = Spec.dA a k r := by
  show (Ideal.ofBits .f32 0x3F000000#32 : EReal) * ∑ n : Fin 8192, (xh (ix2 n k) : EReal) * (h (ix2 n r) : EReal) = _
  rw [Spec.sum_tok]
  simp only [hx, hh]
  rfl

theorem G5 (dy : Vec Ideal S8192x18432 .bf16) (nrm : Vec Ideal S1x18432 .f32) (xh : Vec Ideal S8192x7168 .bf16) (v : Vec Ideal S7168x18432 .bf16)
    (hd : ∀ b t n, (dy (ix2 (Spec.tok b t) n) : EReal) = a.dy b t n) (hn : ∀ n, (nrm (ix2 0 n) : EReal) = a.nrm n)
    (hx : ∀ b t k, (xh (ix2 (Spec.tok b t) k) : EReal) = Spec.xh a b t k) (hv : ∀ k n, (v (ix2 k n) : EReal) = Spec.V a k n)
    (n : Fin 18432) : (R5.G dy nrm xh v (ix2 0 n) : EReal) = Spec.dm a n := by
  show Ideal.div (∑ t : Fin 8192, (dy (ix2 t n) : EReal) * ∑ k : Fin 7168, (xh (ix2 t k) : EReal) * (v (ix2 k n) : EReal)) (R5.safe (nrm (ix2 0 n))) = _
  rw [Spec.sum_tok]
  simp only [hd, hn, hx, hv]
  rfl

theorem H5 (dy : Vec Ideal S8192x18432 .bf16) (g : Vec Ideal S1x18432 .f32) (xa : Vec Ideal S8192x96 .bf16)
    (hd : ∀ b t n, (dy (ix2 (Spec.tok b t) n) : EReal) = a.dy b t n) (hg : ∀ n, (g (ix2 0 n) : EReal) = Ideal.div (a.mag n) (Spec.safe (a.nrm n)))
    (hx : ∀ b t r, (xa (ix2 (Spec.tok b t) r) : EReal) = ∑ k : Fin 7168, Spec.xh a b t k * a.A k r)
    (r : Fin 96) (n : Fin 18432) : (R5.H dy g xa (ix2 r n) : EReal) = Spec.dB a r n := by
  show (Ideal.ofBits .f32 0x3F000000#32 : EReal) * ∑ t : Fin 8192, (xa (ix2 t r) : EReal) * ((dy (ix2 t n) : EReal) * (g (ix2 0 n) : EReal)) = _
  rw [Spec.sum_tok]
  simp only [hd, hg, hx]
  rfl

end

/-! ## The buffers between the regions -/

variable (m : (x : Loc nD τ sig) → Buf (Elt Ideal) x) (c : Dev nD)

theorem w1_of (r : Ref sig .tc) (h : r ≠ main_v10) : W1 m c (Proc.devRef .tc r) = W0 m c (Proc.devRef .tc r) := by
  unfold W1; rw [Function.update_of_ne (StableHlo.devRef_ne_of_ne h)]
theorem w2_of (r : Ref sig .tc) (h : r ≠ main_v11_0) (h' : r ≠ main_v11_1) : W2 m c (Proc.devRef .tc r) = W1 m c (Proc.devRef .tc r) := by
  unfold W2; rw [Function.update_of_ne (StableHlo.devRef_ne_of_ne h'), Function.update_of_ne (StableHlo.devRef_ne_of_ne h)]
theorem w3_of (r : Ref sig .tc) (h : r ≠ main_v12) : W3 m c (Proc.devRef .tc r) = W2 m c (Proc.devRef .tc r) := by
  unfold W3; rw [Function.update_of_ne (StableHlo.devRef_ne_of_ne h)]
theorem w4_of (r : Ref sig .tc) (h : r ≠ main_v13) : W4 m c (Proc.devRef .tc r) = W3 m c (Proc.devRef .tc r) := by
  unfold W4; rw [Function.update_of_ne (StableHlo.devRef_ne_of_ne h)]
theorem w5_of (r : Ref sig .tc) (h : r ≠ main_v14) : W5 m c (Proc.devRef .tc r) = W4 m c (Proc.devRef .tc r) := by
  unfold W5; rw [Function.update_of_ne (StableHlo.devRef_ne_of_ne h)]
theorem w6_of (r : Ref sig .tc) (h : r ≠ main_v15_0) (h' : r ≠ main_v15_1) : W6 m c (Proc.devRef .tc r) = W5 m c (Proc.devRef .tc r) := by
  unfold W6; rw [Function.update_of_ne (StableHlo.devRef_ne_of_ne h'), Function.update_of_ne (StableHlo.devRef_ne_of_ne h)]

/-- The buffer region 5 reads, back to where it was written. -/
theorem w5_w2 (r : Ref sig .tc) (h1 : r ≠ main_v14) (h2 : r ≠ main_v13) (h3 : r ≠ main_v12) : W5 m c (Proc.devRef .tc r) = W2 m c (Proc.devRef .tc r) :=
  (w5_of m c r h1).trans ((w4_of m c r h2).trans (w3_of m c r h3))
theorem w2_w0 (r : Ref sig .tc) (h1 : r ≠ main_v11_0) (h2 : r ≠ main_v11_1) (h3 : r ≠ main_v10) : W2 m c (Proc.devRef .tc r) = W0 m c (Proc.devRef .tc r) :=
  (w2_of m c r h1 h2).trans (w1_of m c r h3)

theorem w1_v10 : W1 m c (Proc.devRef .tc main_v10) = R0.G (W0 m c (Proc.devRef .tc main_arg3)) (W0 m c (Proc.devRef .tc main_arg4)) (W0 m c (Proc.devRef .tc main_arg5)) (W0 m c (Proc.devRef .tc main_arg6)) := by
  unfold W1; rw [Function.update_self]; exact R0.arr (W0 m) c
theorem w2_v11_1 : W2 m c (Proc.devRef .tc main_v11_1) = R1.H (W1 m c (Proc.devRef .tc main_v1)) (W1 m c (Proc.devRef .tc main_v3)) (W1 m c (Proc.devRef .tc main_arg5)) := by
  unfold W2; rw [Function.update_self]; exact R1.arr4 (W1 m) c
theorem w2_v11_0 : W2 m c (Proc.devRef .tc main_v11_0) = R1.G (W1 m c (Proc.devRef .tc main_v1)) (W1 m c (Proc.devRef .tc main_v3)) := by
  unfold W2
  rw [Function.update_of_ne (StableHlo.devRef_ne_of_ne (by decide) : (Proc.devRef .tc main_v11_0 : DevRef τ sig) ≠ Proc.devRef .tc main_v11_1), Function.update_self]
  exact R1.arr3 (W1 m) c
theorem w3_v12 : W3 m c (Proc.devRef .tc main_v12) = R2.G (W2 m c (Proc.devRef .tc main_v0)) (W2 m c (Proc.devRef .tc main_v8)) (W2 m c (Proc.devRef .tc main_v10)) := by
  unfold W3; rw [Function.update_self]; exact R2.arr (W2 m) c
theorem w4_v13 : W4 m c (Proc.devRef .tc main_v13) = R3.G (W3 m c (Proc.devRef .tc main_v0)) (W3 m c (Proc.devRef .tc main_v8)) (W3 m c (Proc.devRef .tc main_arg6)) := by
  unfold W4; rw [Function.update_self]; exact R3.arr (W3 m) c
theorem w5_v14 : W5 m c (Proc.devRef .tc main_v14) = R4.G (W4 m c (Proc.devRef .tc main_v11_0)) (W4 m c (Proc.devRef .tc main_v13)) := by
  unfold W5; rw [Function.update_self]; exact R4.arr (W4 m) c
theorem w6_v15_1 : W6 m c (Proc.devRef .tc main_v15_1) = R5.H (W5 m c (Proc.devRef .tc main_v0)) (W5 m c (Proc.devRef .tc main_v8)) (W5 m c (Proc.devRef .tc main_v11_1)) := by
  unfold W6; rw [Function.update_self]; exact R5.arr7 (W5 m) c
theorem w6_v15_0 : W6 m c (Proc.devRef .tc main_v15_0) = R5.G (W5 m c (Proc.devRef .tc main_v0)) (W5 m c (Proc.devRef .tc main_v9)) (W5 m c (Proc.devRef .tc main_v11_0)) (W5 m c (Proc.devRef .tc main_v10)) := by
  unfold W6
  rw [Function.update_of_ne (StableHlo.devRef_ne_of_ne (by decide) : (Proc.devRef .tc main_v15_0 : DevRef τ sig) ≠ Proc.devRef .tc main_v15_1), Function.update_self]
  exact R5.arr6 (W5 m) c

/-! ## The arrays at an index -/

theorem v10_at (k : Fin 7168) (n : Fin 18432) : ((W1 m c (Proc.devRef .tc main_v10) : Vec Ideal S7168x18432 .bf16) (ix2 k n) : EReal) = Spec.V (ar m c) k n := by
  rw [w1_v10, w0_arg3, w0_arg4, w0_arg5, w0_arg6]
  exact G0 (ar m c) _ _ _ _ (fun _ _ => rfl) (fun _ _ => rfl) (fun _ _ => rfl) (fun _ _ => rfl) k n

theorem xh_at (b : Fin 2) (t : Fin 4096) (k : Fin 7168) : ((W2 m c (Proc.devRef .tc main_v11_0) : Vec Ideal S8192x7168 .bf16) (ix2 (Spec.tok b t) k) : EReal) = Spec.xh (ar m c) b t k := by
  rw [w2_v11_0, w1_of m c main_v1 (by decide), w1_of m c main_v3 (by decide)]
  exact G1 (ar m c) _ _ (v1_at m c) (v3_at m c) b t k

theorem xa_at (b : Fin 2) (t : Fin 4096) (r : Fin 96) : ((W2 m c (Proc.devRef .tc main_v11_1) : Vec Ideal S8192x96 .bf16) (ix2 (Spec.tok b t) r) : EReal) = ∑ k : Fin 7168, Spec.xh (ar m c) b t k * (ar m c).A k r := by
  rw [w2_v11_1, w1_of m c main_v1 (by decide), w1_of m c main_v3 (by decide), w1_of m c main_arg5 (by decide), w0_arg5]
  exact H1 (ar m c) _ _ _ (G1 (ar m c) _ _ (v1_at m c) (v3_at m c)) (fun _ _ => rfl) b t r

theorem v12_at (b : Fin 2) (t : Fin 4096) (k : Fin 7168) : ((W3 m c (Proc.devRef .tc main_v12) : Vec Ideal S8192x7168 .bf16) (ix2 (Spec.tok b t) k) : EReal) = Spec.dx (ar m c) b t k := by
  rw [w3_v12, w2_w0 m c main_v0 (by decide) (by decide) (by decide), w2_w0 m c main_v8 (by decide) (by decide) (by decide), w2_of m c main_v10 (by decide) (by decide)]
  exact G2 (ar m c) _ _ _ (v0_at m c) (v8_at m c) (v10_at m c) b t k

theorem v13_at (b : Fin 2) (t : Fin 4096) (r : Fin 96) : ((W4 m c (Proc.devRef .tc main_v13) : Vec Ideal S8192x96 .bf16) (ix2 (Spec.tok b t) r) : EReal) = ∑ n : Fin 18432, Spec.dyp (ar m c) b t n * (ar m c).B r n := by
  rw [w4_v13, w3_of m c main_v0 (by decide), w3_of m c main_v8 (by decide), w3_of m c main_arg6 (by decide),
    w2_w0 m c main_v0 (by decide) (by decide) (by decide), w2_w0 m c main_v8 (by decide) (by decide) (by decide), w2_w0 m c main_arg6 (by decide) (by decide) (by decide), w0_arg6]
  exact G3 (ar m c) _ _ _ (v0_at m c) (v8_at m c) (fun _ _ => rfl) b t r

theorem v14_at (k : Fin 7168) (r : Fin 96) : ((W5 m c (Proc.devRef .tc main_v14) : Vec Ideal S7168x96 .bf16) (ix2 k r) : EReal) = Spec.dA (ar m c) k r := by
  rw [w5_v14, w4_of m c main_v11_0 (by decide), w3_of m c main_v11_0 (by decide)]
  exact G4 (ar m c) _ _ (xh_at m c) (v13_at m c) k r

theorem v15_0_at (n : Fin 18432) : ((W6 m c (Proc.devRef .tc main_v15_0) : Vec Ideal S1x18432 .f32) (ix2 0 n) : EReal) = Spec.dm (ar m c) n := by
  rw [w6_v15_0, w5_w2 m c main_v0 (by decide) (by decide) (by decide), w5_w2 m c main_v9 (by decide) (by decide) (by decide), w5_w2 m c main_v11_0 (by decide) (by decide) (by decide), w5_w2 m c main_v10 (by decide) (by decide) (by decide),
    w2_w0 m c main_v0 (by decide) (by decide) (by decide), w2_w0 m c main_v9 (by decide) (by decide) (by decide), w2_of m c main_v10 (by decide) (by decide)]
  exact G5 (ar m c) _ _ _ _ (v0_at m c) (v9_at m c) (xh_at m c) (v10_at m c) n

theorem v15_1_at (r : Fin 96) (n : Fin 18432) : ((W6 m c (Proc.devRef .tc main_v15_1) : Vec Ideal S96x18432 .bf16) (ix2 r n) : EReal) = Spec.dB (ar m c) r n := by
  rw [w6_v15_1, w5_w2 m c main_v0 (by decide) (by decide) (by decide), w5_w2 m c main_v8 (by decide) (by decide) (by decide), w5_w2 m c main_v11_1 (by decide) (by decide) (by decide),
    w2_w0 m c main_v0 (by decide) (by decide) (by decide), w2_w0 m c main_v8 (by decide) (by decide) (by decide)]
  exact H5 (ar m c) _ _ _ (v0_at m c) (v8_at m c) (xa_at m c) r n

/-! ## The four results -/

theorem fin_of (r : Ref sig .tc) (h : r ∉ hostOps6_W) : fin m c (Proc.devRef .tc r) = W6 m c (Proc.devRef .tc r) :=
  StableHlo.after_of_writes_sub hostOps6 _ hostOps6_writes h

theorem fin_v16 : fin m c (Proc.devRef .tc main_v16) = shapeCast S2x4096x7168 (W6 m c (Proc.devRef .tc main_v12) : Vec Ideal S8192x7168 .bf16) shapeCasts_S8192x7168_S2x4096x7168 := by
  unfold fin
  entry_read
  rfl
theorem fin_v17 : fin m c (Proc.devRef .tc main_v17) = shapeCast S18432 (W6 m c (Proc.devRef .tc main_v15_0) : Vec Ideal S1x18432 .f32) shapeCasts_S1x18432_S18432 := by
  unfold fin
  entry_read
  rfl

theorem flat1 (v : FVec Ideal S1x18432 .f32) (n : Fin 18432) : (shapeCast S18432 v shapeCasts_S1x18432_S18432 (ix1 n) : EReal) = v (ix2 0 n) := by
  pointwise []

/-- The gradient of the activations. -/
theorem res_dx (b : Fin 2) (t : Fin 4096) (k : Fin 7168) : ((fin m c (Proc.devRef .tc main_v16) : Vec Ideal S2x4096x7168 .bf16) (ix3 b t k) : EReal) = Spec.dx (ar m c) b t k := by
  rw [fin_v16, w6_of m c main_v12 (by decide) (by decide), w5_of m c main_v12 (by decide), w4_of m c main_v12 (by decide)]
  refine Eq.trans ?_ (v12_at m c b t k)
  exact shapeCast_apply _ _ (ix3 b t k) (ix2 (Spec.tok b t) k) (by
    rewrite [Shape.rowMajor_val_three, Shape.rowMajor_val_two]
    rfl)
/-- The gradient of `lora_a`. -/
theorem res_dA (k : Fin 7168) (r : Fin 96) : ((fin m c (Proc.devRef .tc main_v14) : Vec Ideal S7168x96 .bf16) (ix2 k r) : EReal) = Spec.dA (ar m c) k r := by
  rw [fin_of m c main_v14 (by decide), w6_of m c main_v14 (by decide) (by decide)]
  exact v14_at m c k r
/-- The gradient of `lora_b`. -/
theorem res_dB (r : Fin 96) (n : Fin 18432) : ((fin m c (Proc.devRef .tc main_v15_1) : Vec Ideal S96x18432 .bf16) (ix2 r n) : EReal) = Spec.dB (ar m c) r n := by
  rw [fin_of m c main_v15_1 (by decide)]
  exact v15_1_at m c r n
/-- The gradient of the magnitudes. -/
theorem res_dm (n : Fin 18432) : ((fin m c (Proc.devRef .tc main_v17) : Vec Ideal S18432 .f32) (ix1 n) : EReal) = Spec.dm (ar m c) n := by
  rw [fin_v17]
  exact (flat1 _ n).trans (v15_0_at m c n)

end Cert.KernelIdeal.All

end
-- ==== Proof.Ref.lean ====
module

public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Spec
public import Idealize.ShloMosaic.Lib.Pipeline.ValueKit
public import Idealize.ShloMosaic.Lib.ValueIdx
public import Idealize.ShloMosaic.Lib.IdealHost
public import Idealize.ShloMosaic.Lib.TwoAxisContraction
public import Idealize.ShloMosaic.Lib.Pointwise

/-!
# The reference's results over the extended reals
-/

@[expose] public section

set_option maxRecDepth 16384

noncomputable section

namespace Cert.ReferenceIdeal.Value

open Cert.ReferenceIdeal.Gen
open Idealize.ShloMosaic Idealize.ShloMosaic.TcCoe Idealize.ShloMosaic.Tactic

variable (V : Valuation τ sig (Elt Ideal))

/-- The arguments as the reference's later operations find them. -/
def ar : Spec.Args where
  dy b s n := (V (Proc.devRef .tc main_arg0) : Vec Ideal S2x4096x18432 .bf16) (ix3 b s n)
  xc b s k := (V (Proc.devRef .tc main_v0) : Vec Ideal S2x4096x7168 .bf16) (ix3 b s k)
  xs b s g := (V (Proc.devRef .tc main_arg2) : Vec Ideal S2x4096x224 .f32) (ix3 b s g)
  w j n := (V (Proc.devRef .tc main_arg3) : Vec Ideal S3584x18432 .i8) (ix2 j n)
  ws g n := (V (Proc.devRef .tc main_arg4) : Vec Ideal S56x18432 .bf16) (ix2 g n)
  A k r := (V (Proc.devRef .tc main_arg5) : Vec Ideal S7168x96 .bf16) (ix2 k r)
  B r n := (V (Proc.devRef .tc main_arg6) : Vec Ideal S96x18432 .bf16) (ix2 r n)
  mag n := (V (Proc.devRef .tc main_arg7) : Vec Ideal S18432 .f32) (ix1 n)
  nrm n := (V (Proc.devRef .tc main_arg8) : Vec Ideal S18432 .f32) (ix1 n)

/-- The reference's named arrays, element by element. -/
abbrev e63 (b : Fin 2) (s : Fin 4096) (k : Fin 7168) : EReal := res_main_v63 V (ix3 b s k)
abbrev e44 (n : Fin 18432) : EReal := res_main_v44 V (ix1 n)
abbrev e46 (b : Fin 2) (s : Fin 4096) (n : Fin 18432) : EReal := res_main_v46 V (ix3 b s n)
abbrev e50 (b : Fin 2) (s : Fin 4096) (n : Fin 18432) : EReal := res_main_v50 V (ix3 b s n)
abbrev e36 (j : Fin 3584) (n : Fin 18432) : EReal := res_main_v36 V (ix2 j n)
abbrev e41 (j : Fin 3584) (n : Fin 18432) : EReal := res_main_v41 V (ix2 j n)

theorem v63 (b : Fin 2) (s : Fin 4096) (k : Fin 7168) : e63 V b s k = Spec.xh (ar V) b s k := by
  unfold e63
  pointwise [res_main_v63]
  rfl

theorem v44 (n : Fin 18432) : e44 V n = Spec.safe ((ar V).nrm n) := by
  unfold e44
  unfold res_main_v44 id
  pointwise []
  rfl

/-- The incoming gradient, widened. -/
theorem v46 (b : Fin 2) (s : Fin 4096) (n : Fin 18432) : e46 V b s n = (ar V).dy b s n := rfl

theorem v50 (b : Fin 2) (s : Fin 4096) (n : Fin 18432) : e50 V b s n = Spec.dyp (ar V) b s n := by
  unfold Spec.dyp
  rw [← v44 V n]
  unfold e50 e44
  pointwise [res_main_v50, res_main_v46]
  rfl

theorem v36 (j : Fin 3584) (n : Fin 18432) : e36 V j n = Spec.V (ar V) ⟨2 * j.val, by omega⟩ n := by
  unfold e36
  rw [Spec.V_even]
  pointwise [res_main_v36, res_main_v1]
  rfl

theorem v41 (j : Fin 3584) (n : Fin 18432) : e41 V j n = Spec.V (ar V) ⟨1 + 2 * j.val, by omega⟩ n := by
  unfold e41
  rw [Spec.V_odd]
  pointwise [res_main_v41, res_main_v1]
  rfl

/-- The two halves of the rows put side by side, the last axis holding the row's parity. -/
theorem pair_apply (x y : FVec Ideal S2x4096x3584 .f32) (b : Fin 2) (s : Fin 4096) (j : Fin 3584) (p : Fin 2) :
    ((concatenate S2x4096x3584x2 3 [⟨S2x4096x3584x1, (broadcastInDim S2x4096x3584x1 ![0, 1, 2] bcast_S2x4096x3584_S2x4096x3584x1_0_1_2 x)⟩, ⟨S2x4096x3584x1, (broadcastInDim S2x4096x3584x1 ![0, 1, 2] bcast_S2x4096x3584_S2x4096x3584x1_0_1_2 y)⟩] concatenates_S2x4096x3584x1_S2x4096x3584x1_S2x4096x3584x2_d3 : FVec Ideal S2x4096x3584x2 .f32) (ix4 b s j p) : EReal)
      = if p.val < 1 then x (ix3 b s j) else y (ix3 b s j) := by
  pointwise []
  rfl

/-- Where an element of the paired rows lies. -/
theorem rm57 (b : Fin 2) (s : Fin 4096) (k : Fin 7168) :
    (S2x4096x3584x2.rowMajor (ix4 b s ⟨k.val / 2, by omega⟩ ⟨k.val % 2, by omega⟩)).val = (S2x4096x7168.rowMajor (ix3 b s k)).val := by
  rewrite [Shape.rowMajor_val_four, Shape.rowMajor_val_three]
  have h0 : b.val < 2 := b.isLt
  have h1 : s.val < 4096 := s.isLt
  have h2 : k.val < 7168 := k.isLt
  show ((b.val * 4096 + s.val) * 3584 + k.val / 2) * 2 + k.val % 2 = (b.val * 4096 + s.val) * 7168 + k.val
  omega

theorem sc57 (z : S2x4096x3584x2.Idx → EReal) (b : Fin 2) (s : Fin 4096) (k : Fin 7168) :
    shapeCast S2x4096x7168 z shapeCasts_S2x4096x3584x2_S2x4096x7168 (ix3 b s k) = z (ix4 b s ⟨k.val / 2, by omega⟩ ⟨k.val % 2, by omega⟩) :=
  shapeCast_apply z shapeCasts_S2x4096x3584x2_S2x4096x7168 (ix3 b s k) (ix4 b s ⟨k.val / 2, by omega⟩ ⟨k.val % 2, by omega⟩) (rm57 b s k)

theorem tr57 (z : S2x4096x3584x2.Idx → EReal) (b : Fin 2) (s : Fin 4096) (k : Fin 7168) :
    ((truncf .bf16 (shapeCast S2x4096x7168 (z : FVec Ideal S2x4096x3584x2 .f32) shapeCasts_S2x4096x3584x2_S2x4096x7168) bitsLt_bf16_f32 : FVec Ideal S2x4096x7168 .bf16) (ix3 b s k) : EReal) = z (ix4 b s ⟨k.val / 2, by omega⟩ ⟨k.val % 2, by omega⟩) :=
  Eq.trans rfl (sc57 z b s k)

/-- The paired rows in one axis. -/
theorem r57 (x y : FVec Ideal S2x4096x3584 .f32) (b : Fin 2) (s : Fin 4096) (k : Fin 7168) :
    ((truncf .bf16 (shapeCast S2x4096x7168 (concatenate S2x4096x3584x2 3 [⟨S2x4096x3584x1, (broadcastInDim S2x4096x3584x1 ![0, 1, 2] bcast_S2x4096x3584_S2x4096x3584x1_0_1_2 x)⟩, ⟨S2x4096x3584x1, (broadcastInDim S2x4096x3584x1 ![0, 1, 2] bcast_S2x4096x3584_S2x4096x3584x1_0_1_2 y)⟩] concatenates_S2x4096x3584x1_S2x4096x3584x1_S2x4096x3584x2_d3) shapeCasts_S2x4096x3584x2_S2x4096x7168) bitsLt_bf16_f32 : FVec Ideal S2x4096x7168 .bf16) (ix3 b s k) : EReal)
      = if k.val % 2 < 1 then x (ix3 b s ⟨k.val / 2, by omega⟩) else y (ix3 b s ⟨k.val / 2, by omega⟩) := by
  exact (tr57 _ b s k).trans (pair_apply x y b s ⟨k.val / 2, by omega⟩ ⟨k.val % 2, by omega⟩)

/-- The product of the scaled gradient with half of the weight's rows. -/
theorem half_dx (d : FVec Ideal S2x4096x18432 .bf16) (v : FVec Ideal S3584x18432 .bf16) (b : Fin 2) (s : Fin 4096) (j : Fin 3584) :
    ((Host.dotGeneral dot_S2x4096x18432_S3584x18432_S2x4096x3584_2_1_01_0_n_n none d v : FVec Ideal S2x4096x3584 .f32) (ix3 b s j) : EReal)
      = ∑ n : Fin 18432, (d (ix3 b s n) : EReal) * (v (ix2 j n) : EReal) := by
  pointwise []

theorem dx (b : Fin 2) (s : Fin 4096) (k : Fin 7168) :
    (if k.val % 2 < 1 then ∑ n : Fin 18432, e50 V b s n * e36 V ⟨k.val / 2, by omega⟩ n else ∑ n : Fin 18432, e50 V b s n * e41 V ⟨k.val / 2, by omega⟩ n)
      = Spec.dx (ar V) b s k := by
  unfold Spec.dx
  simp only [v50, v36, v41]
  split
  · rename_i h
    rw [show (⟨2 * (k.val / 2), by omega⟩ : Fin 7168) = k from Fin.ext (by show 2 * (k.val / 2) = k.val; omega)]
  · rename_i h
    rw [show (⟨1 + 2 * (k.val / 2), by omega⟩ : Fin 7168) = k from Fin.ext (by show 1 + 2 * (k.val / 2) = k.val; omega)]

theorem r57_all (d : FVec Ideal S2x4096x18432 .bf16) (v w : FVec Ideal S3584x18432 .bf16) (b : Fin 2) (s : Fin 4096) (k : Fin 7168) :
    ((truncf .bf16 (shapeCast S2x4096x7168 (concatenate S2x4096x3584x2 3 [⟨S2x4096x3584x1, (broadcastInDim S2x4096x3584x1 ![0, 1, 2] bcast_S2x4096x3584_S2x4096x3584x1_0_1_2 (Host.dotGeneral dot_S2x4096x18432_S3584x18432_S2x4096x3584_2_1_01_0_n_n none d v : FVec Ideal S2x4096x3584 .f32))⟩, ⟨S2x4096x3584x1, (broadcastInDim S2x4096x3584x1 ![0, 1, 2] bcast_S2x4096x3584_S2x4096x3584x1_0_1_2 (Host.dotGeneral dot_S2x4096x18432_S3584x18432_S2x4096x3584_2_1_01_0_n_n none d w : FVec Ideal S2x4096x3584 .f32))⟩] concatenates_S2x4096x3584x1_S2x4096x3584x1_S2x4096x3584x2_d3) shapeCasts_S2x4096x3584x2_S2x4096x7168) bitsLt_bf16_f32 : FVec Ideal S2x4096x7168 .bf16) (ix3 b s k) : EReal)
      = if k.val % 2 < 1 then ∑ n : Fin 18432, (d (ix3 b s n) : EReal) * (v (ix2 ⟨k.val / 2, by omega⟩ n) : EReal) else ∑ n : Fin 18432, (d (ix3 b s n) : EReal) * (w (ix2 ⟨k.val / 2, by omega⟩ n) : EReal) := by
  refine (r57 _ _ b s k).trans ?_
  rw [half_dx, half_dx]

theorem r77 (x : FVec Ideal S2x4096x7168 .bf16) (d : FVec Ideal S2x4096x18432 .bf16) (B : FVec Ideal S96x18432 .bf16) (k : Fin 7168) (r : Fin 96) :
    ((truncf .bf16 (mulf (broadcastInDim S7168x96 ![] bcast_S_S7168x96 (constant S_ .f32 0x3F000000#32)) (Host.dotGeneral dot_S2x4096x7168_S2x4096x96_S7168x96_01_01_2_2_n_n none x (truncf .bf16 (Host.dotGeneral dot_S2x4096x18432_S96x18432_S2x4096x96_2_1_01_0_n_n none d B) bitsLt_bf16_f32))) bitsLt_bf16_f32 : FVec Ideal S7168x96 .bf16) (ix2 k r) : EReal)
      = Spec.half * ∑ b : Fin 2, ∑ s : Fin 4096, (x (ix3 b s k) : EReal) * ∑ n : Fin 18432, (d (ix3 b s n) : EReal) * (B (ix2 r n) : EReal) := by
  pointwise []
  rfl

theorem dA (k : Fin 7168) (r : Fin 96) :
    Spec.half * ∑ b : Fin 2, ∑ s : Fin 4096, e63 V b s k * ∑ n : Fin 18432, e50 V b s n * (ar V).B r n = Spec.dA (ar V) k r := by
  unfold Spec.dA
  simp only [v63, v50]

theorem r83 (x : FVec Ideal S2x4096x7168 .bf16) (d : FVec Ideal S2x4096x18432 .bf16) (A : FVec Ideal S7168x96 .bf16) (r : Fin 96) (n : Fin 18432) :
    ((truncf .bf16 (mulf (broadcastInDim S96x18432 ![] bcast_S_S96x18432 (constant S_ .f32 0x3F000000#32)) (Host.dotGeneral dot_S2x4096x96_S2x4096x18432_S96x18432_01_01_2_2_n_n none (truncf .bf16 (Host.dotGeneral dot_S2x4096x7168_S7168x96_S2x4096x96_2_0_01_1_n_n none x A) bitsLt_bf16_f32) d)) bitsLt_bf16_f32 : FVec Ideal S96x18432 .bf16) (ix2 r n) : EReal)
      = Spec.half * ∑ b : Fin 2, ∑ s : Fin 4096, (∑ k : Fin 7168, (x (ix3 b s k) : EReal) * (A (ix2 k r) : EReal)) * (d (ix3 b s n) : EReal) := by
  pointwise []
  rfl

theorem dB (r : Fin 96) (n : Fin 18432) :
    Spec.half * ∑ b : Fin 2, ∑ s : Fin 4096, (∑ k : Fin 7168, e63 V b s k * (ar V).A k r) * e50 V b s n = Spec.dB (ar V) r n := by
  unfold Spec.dB
  simp only [v63, v50]

/-- The indices that fall on column `n` when both token axes are dropped. -/
theorem fiber (n : Fin 18432) (i : S2x4096x18432.Idx) :
    reducesTo_S2x4096x18432_S18432_d0_1.drop i = ix1 n ↔ ∃ k : Fin 2 × Fin 4096, (ix3 k.1 k.2 n : S2x4096x18432.Idx) = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, by decide⟩)).symm
  · rintro ⟨k, rfl⟩
    funext b
    apply Fin.ext
    match b with
    | ⟨0, _⟩ => rfl

/-- The host's sum over both token axes. -/
theorem tokSum (v : FVec Ideal S2x4096x18432 .f32) (n : Fin 18432) :
    (Ideal.hostReduceAdd reducesTo_S2x4096x18432_S18432_d0_1 v 0 (ix1 n) : EReal) = ∑ b : Fin 2, ∑ s : Fin 4096, (v (ix3 b s n) : EReal) := by
  refine (zero_add _).trans ?_
  refine (Finset.sum_filter_eq_sum_of_fiber _ (fun k : Fin 2 × Fin 4096 => (ix3 k.1 k.2 n : S2x4096x18432.Idx))
    (fun _ _ e => Prod.ext (congrFun e 0) (congrFun e 1)) (fiber n) v).trans ?_
  simp only [Fintype.sum_prod_type]

theorem inner71 (dy : FVec Ideal S2x4096x18432 .f32) (x : FVec Ideal S2x4096x7168 .bf16) (v w : FVec Ideal S3584x18432 .bf16) (b : Fin 2) (s : Fin 4096) (n : Fin 18432) :
    ((mulf dy (addf (Host.dotGeneral dot_S2x4096x3584_S3584x18432_S2x4096x18432_2_0_01_1_n_n none (Host.slice S2x4096x3584 ![0, 0, 0] ![1, 1, 2] x slicesBy_S2x4096x7168_S2x4096x3584_0s1_0s1_0s2) v) (Host.dotGeneral dot_S2x4096x3584_S3584x18432_S2x4096x18432_2_0_01_1_n_n none (Host.slice S2x4096x3584 ![0, 0, 1] ![1, 1, 2] x slicesBy_S2x4096x7168_S2x4096x3584_0s1_0s1_1s2) w)) : FVec Ideal S2x4096x18432 .f32) (ix3 b s n) : EReal)
      = (dy (ix3 b s n) : EReal) * (∑ j : Fin 3584, (x (ix3 b s ⟨2 * j.val, by omega⟩) : EReal) * (v (ix2 j n) : EReal)
          + ∑ j : Fin 3584, (x (ix3 b s ⟨1 + 2 * j.val, by omega⟩) : EReal) * (w (ix2 j n) : EReal)) := by
  pointwise []

theorem r71 (y : FVec Ideal S2x4096x18432 .f32) (d : FVec Ideal S18432 .f32) (n : Fin 18432) :
    ((Host.divf (Host.reduceAdd y (constant S_ .f32 0x00000000#32) reducesTo_S2x4096x18432_S18432_d0_1 h_S_) d : FVec Ideal S18432 .f32) (ix1 n) : EReal)
      = Ideal.div (∑ b : Fin 2, ∑ s : Fin 4096, (y (ix3 b s n) : EReal)) (d (ix1 n)) := by
  rw [← tokSum]
  pointwise []

theorem r71_all (dy : FVec Ideal S2x4096x18432 .f32) (x : FVec Ideal S2x4096x7168 .bf16) (v w : FVec Ideal S3584x18432 .bf16) (d : FVec Ideal S18432 .f32) (n : Fin 18432) :
    ((Host.divf (Host.reduceAdd (mulf dy (addf (Host.dotGeneral dot_S2x4096x3584_S3584x18432_S2x4096x18432_2_0_01_1_n_n none (Host.slice S2x4096x3584 ![0, 0, 0] ![1, 1, 2] x slicesBy_S2x4096x7168_S2x4096x3584_0s1_0s1_0s2) v) (Host.dotGeneral dot_S2x4096x3584_S3584x18432_S2x4096x18432_2_0_01_1_n_n none (Host.slice S2x4096x3584 ![0, 0, 1] ![1, 1, 2] x slicesBy_S2x4096x7168_S2x4096x3584_0s1_0s1_1s2) w))) (constant S_ .f32 0x00000000#32) reducesTo_S2x4096x18432_S18432_d0_1 h_S_) d : FVec Ideal S18432 .f32) (ix1 n) : EReal)
      = Ideal.div (∑ b : Fin 2, ∑ s : Fin 4096, (dy (ix3 b s n) : EReal) * (∑ j : Fin 3584, (x (ix3 b s ⟨2 * j.val, by omega⟩) : EReal) * (v (ix2 j n) : EReal)
          + ∑ j : Fin 3584, (x (ix3 b s ⟨1 + 2 * j.val, by omega⟩) : EReal) * (w (ix2 j n) : EReal))) (d (ix1 n)) := by
  refine (r71 _ _ n).trans ?_
  simp only [inner71]

theorem dm (n : Fin 18432) :
    Ideal.div (∑ b : Fin 2, ∑ s : Fin 4096, e46 V b s n * (∑ j : Fin 3584, e63 V b s ⟨2 * j.val, by omega⟩ * e36 V j n
          + ∑ j : Fin 3584, e63 V b s ⟨1 + 2 * j.val, by omega⟩ * e41 V j n)) (e44 V n)
      = Spec.dm (ar V) n := by
  unfold Spec.dm
  simp only [Spec.sum_par, v44, v46, v63, v36, v41]

end Cert.ReferenceIdeal.Value

end
-- ==== Proof.RefRun.lean ====
module

public import proofs.«01_k».proof.Proof.Ref

/-!
# The reference's results are the four gradients
-/

@[expose] public section

set_option maxRecDepth 16384

noncomputable section

namespace Cert.ReferenceIdeal.Value

open Cert.ReferenceIdeal.Gen
open Idealize.ShloMosaic Idealize.ShloMosaic.TcCoe Idealize.ShloMosaic.Tactic

variable (m : (x : Loc nD τ sig) → Buf (Elt Ideal) x) (c : Dev nD)

/-- The widened activations are the activations. -/
def wide (x : Vec Ideal S2x4096x7168 .fp8e4m3) : Vec Ideal S2x4096x7168 .bf16 := fun i => (x i : EReal)

theorem pay (x : Vec Ideal S2x4096x7168 .fp8e4m3) (i : S2x4096x7168.Idx) : (k0_pay1 x i : EReal) = (x i : EReal) := rfl

theorem idx0 (t : Fin cfg0.N) : win0_0.index t = ![0, 0, 0] :=
  (by decide +kernel : ∀ t : Fin grid0.N, win0_0.index t = ![0, 0, 0]) t
theorem idx1 (t : Fin cfg0.N) : win0_1.index t = ![0, 0, 0] :=
  (by decide +kernel : ∀ t : Fin grid0.N, win0_1.index t = ![0, 0, 0]) t

theorem reg0 : reg_main_v0 m c = wide (m ((c.tc : Thread nD τ).loc main_arg1)) := by
  unfold reg_main_v0
  refine (Gen.dats m 0 c).arrAt_eq_of_covers 1 _ (by decide +kernel) fun t hf y => ?_
  blk_simp
  rw [after0_1]
  unfold out0_1
  frame_out
  refine (pay _ _).trans ?_
  unfold wide
  blk_point [iblk, idx0 t, idx1 t]

/-- The arguments as launched. -/
def arM : Spec.Args where
  dy b s n := (m ((c.tc : Thread nD τ).loc main_arg0) : Vec Ideal S2x4096x18432 .bf16) (ix3 b s n)
  xc b s k := (m ((c.tc : Thread nD τ).loc main_arg1) : Vec Ideal S2x4096x7168 .fp8e4m3) (ix3 b s k)
  xs b s g := (m ((c.tc : Thread nD τ).loc main_arg2) : Vec Ideal S2x4096x224 .f32) (ix3 b s g)
  w j n := (m ((c.tc : Thread nD τ).loc main_arg3) : Vec Ideal S3584x18432 .i8) (ix2 j n)
  ws g n := (m ((c.tc : Thread nD τ).loc main_arg4) : Vec Ideal S56x18432 .bf16) (ix2 g n)
  A k r := (m ((c.tc : Thread nD τ).loc main_arg5) : Vec Ideal S7168x96 .bf16) (ix2 k r)
  B r n := (m ((c.tc : Thread nD τ).loc main_arg6) : Vec Ideal S96x18432 .bf16) (ix2 r n)
  mag n := (m ((c.tc : Thread nD τ).loc main_arg7) : Vec Ideal S18432 .f32) (ix1 n)
  nrm n := (m ((c.tc : Thread nD τ).loc main_arg8) : Vec Ideal S18432 .f32) (ix1 n)

theorem ar_exit : ar (exitV m c) = arM m c := by
  unfold ar
  rw [exit_main_arg0, exit_main_v0, exit_main_arg2, exit_main_arg3, exit_main_arg4, exit_main_arg5, exit_main_arg6, exit_main_arg7, exit_main_arg8, reg0]
  rfl

/-- Arrays with the four gradients of `a` in them. -/
def resDx (a : Spec.Args) : Vec Ideal S2x4096x7168 .bf16 := fun i => Spec.dx a (i 0) (i 1) (i 2)
def resDA (a : Spec.Args) : Vec Ideal S7168x96 .bf16 := fun i => Spec.dA a (i 0) (i 1)
def resDB (a : Spec.Args) : Vec Ideal S96x18432 .bf16 := fun i => Spec.dB a (i 0) (i 1)
def resDm (a : Spec.Args) : Vec Ideal S18432 .f32 := fun i => Spec.dm a (i 0)

theorem run_spec (ρ : Dev nD → PrngReg) :
    θ_run defs (onTc (τ := τ) (main (F := Ideal))) ⟨m, fun _ => 0, ρ⟩ fun r => ∀ c : Dev nD,
      r.2.mem ((c.tc : Thread nD τ).loc main_v57) = resDx (arM m c)
      ∧ r.2.mem ((c.tc : Thread nD τ).loc main_v77) = resDA (arM m c)
      ∧ r.2.mem ((c.tc : Thread nD τ).loc main_v83) = resDB (arM m c)
      ∧ r.2.mem ((c.tc : Thread nD τ).loc main_v71) = resDm (arM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (run m ρ)
  obtain ⟨h0, h1, h2, h3, hr⟩ := h c
  refine ⟨h0.trans ?_, h1.trans ?_, h2.trans ?_, h3.trans ?_, hr⟩
  · refine (funext fun i => ?_ : _ = resDx (arM m c))
    rw [← ar_exit, eq_ix3 i]
    exact (r57_all _ _ _ (i 0) (i 1) (i 2)).trans (dx (exitV m c) (i 0) (i 1) (i 2))
  · refine (funext fun i => ?_ : _ = resDA (arM m c))
    rw [← ar_exit, eq_ix2 i]
    exact (r77 _ _ _ (i 0) (i 1)).trans (dA (exitV m c) (i 0) (i 1))
  · refine (funext fun i => ?_ : _ = resDB (arM m c))
    rw [← ar_exit, eq_ix2 i]
    exact (r83 _ _ _ (i 0) (i 1)).trans (dB (exitV m c) (i 0) (i 1))
  · refine (funext fun i => ?_ : _ = resDm (arM m c))
    rw [← ar_exit, eq_ix1 i]
    exact (r71_all _ _ _ _ _ (i 0)).trans (dm (exitV m c) (i 0))

end Cert.ReferenceIdeal.Value

end
-- ==== Proof.Algebraic.lean ====
module

public import proofs.«01_k».proof.Defs
public import proofs.«01_k».proof.Proof.KRes
public import proofs.«01_k».proof.Proof.RefRun

/-!
# The kernel and the reference leave the same four gradients over the extended reals
-/

@[expose] public section

set_option maxRecDepth 16384

noncomputable section

namespace Cert.KernelIdeal.All

open Cert.KernelIdeal.Gen
open Idealize.ShloMosaic Idealize.ShloMosaic.TcCoe Idealize.ShloMosaic.Tactic

variable (m : (x : Loc nD τ sig) → Buf (Elt Ideal) x)

/-- Arrays with the four gradients of `a` in them. -/
def resDx (a : Spec.Args) : Vec Ideal S2x4096x7168 .bf16 := fun i => Spec.dx a (i 0) (i 1) (i 2)
def resDA (a : Spec.Args) : Vec Ideal S7168x96 .bf16 := fun i => Spec.dA a (i 0) (i 1)
def resDB (a : Spec.Args) : Vec Ideal S96x18432 .bf16 := fun i => Spec.dB a (i 0) (i 1)
def resDm (a : Spec.Args) : Vec Ideal S18432 .f32 := fun i => Spec.dm a (i 0)

theorem fin_dx (c : Dev nD) : fin m c (Proc.devRef .tc main_v16) = resDx (ar m c) := by
  refine (funext fun i => ?_ : _ = resDx (ar m c))
  rw [eq_ix3 i]
  exact res_dx m c (i 0) (i 1) (i 2)
theorem fin_dA (c : Dev nD) : fin m c (Proc.devRef .tc main_v14) = resDA (ar m c) := by
  refine (funext fun i => ?_ : _ = resDA (ar m c))
  rw [eq_ix2 i]
  exact res_dA m c (i 0) (i 1)
theorem fin_dB (c : Dev nD) : fin m c (Proc.devRef .tc main_v15_1) = resDB (ar m c) := by
  refine (funext fun i => ?_ : _ = resDB (ar m c))
  rw [eq_ix2 i]
  exact res_dB m c (i 0) (i 1)
theorem fin_dm (c : Dev nD) : fin m c (Proc.devRef .tc main_v17) = resDm (ar m c) := by
  refine (funext fun i => ?_ : _ = resDm (ar m c))
  rw [eq_ix1 i]
  exact res_dm m c (i 0)

/-- Every weakly fair run of the kernel ends with the four gradients of its arguments, and the arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v16) = resDx (ar m c)
      ∧ r.2.mem ((c.tc : Thread nD τ).loc main_v14) = resDA (ar m c)
      ∧ r.2.mem ((c.tc : Thread nD τ).loc main_v15_1) = resDB (ar m c)
      ∧ r.2.mem ((c.tc : Thread nD τ).loc main_v17) = resDm (ar m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨
      (h.1 c _ (mem_uc main_v16 (by decide))).trans (fin_dx m c),
      (h.1 c _ (mem_uc main_v14 (by decide))).trans (fin_dA m c),
      (h.1 c _ (mem_uc main_v15_1 (by decide))).trans (fin_dB m c),
      (h.1 c _ (mem_uc main_v17 (by decide))).trans (fin_dm m c),
      (h.1 c _ (mem_uc main_arg0 (by decide))).trans (fin_arg m c main_arg0 (V12_main_arg0 m (outs m) c)),
      (h.1 c _ (mem_uc main_arg1 (by decide))).trans (fin_arg m c main_arg1 (V12_main_arg1 m (outs m) c)),
      (h.1 c _ (mem_uc main_arg2 (by decide))).trans (fin_arg m c main_arg2 (V12_main_arg2 m (outs m) c)),
      (h.1 c _ (mem_uc main_arg3 (by decide))).trans (fin_arg m c main_arg3 (V12_main_arg3 m (outs m) c)),
      (h.1 c _ (mem_uc main_arg4 (by decide))).trans (fin_arg m c main_arg4 (V12_main_arg4 m (outs m) c)),
      (h.1 c _ (mem_uc main_arg5 (by decide))).trans (fin_arg m c main_arg5 (V12_main_arg5 m (outs m) c)),
      (h.1 c _ (mem_uc main_arg6 (by decide))).trans (fin_arg m c main_arg6 (V12_main_arg6 m (outs m) c)),
      (h.1 c _ (mem_uc main_arg7 (by decide))).trans (fin_arg m c main_arg7 (V12_main_arg7 m (outs m) c)),
      (h.1 c _ (mem_uc main_arg8 (by decide))).trans (fin_arg m c main_arg8 (V12_main_arg8 m (outs m) c))⟩) (run m ρ)

end Cert.KernelIdeal.All

namespace Cert.Algebraic

open Idealize.ShloMosaic Idealize.ShloMosaic.TcCoe

theorem algebraic : Cert.algebraic_KernelIdeal_ReferenceIdeal (hKernelIdeal := Cert.KernelIdeal.Gen.facts) (hReferenceIdeal := Cert.ReferenceIdeal.Gen.facts) := by
  intro m g m' g' _ hag
  have e : ∀ c, Cert.ReferenceIdeal.Value.arM m' c = Cert.KernelIdeal.All.ar m c := fun c => by
    obtain ⟨h0, h1, h2, h3, h4, h5, h6, h7, h8⟩ := hag c
    unfold Cert.ReferenceIdeal.Value.arM
    rw [h0, h1, h2, h3, h4, h5, h6, h7, h8]
    rfl
  refine ⟨fun c => Cert.KernelIdeal.All.resDx (Cert.KernelIdeal.All.ar m c), fun c => Cert.KernelIdeal.All.resDA (Cert.KernelIdeal.All.ar m c),
    fun c => Cert.KernelIdeal.All.resDB (Cert.KernelIdeal.All.ar m c), fun c => Cert.KernelIdeal.All.resDm (Cert.KernelIdeal.All.ar m c),
    Cert.KernelIdeal.All.run_spec m g, ?_⟩
  refine (θ_run (Cert.ReferenceIdeal.defs (F := Ideal)) _ _).mono (fun r h c => ?_) (Cert.ReferenceIdeal.Value.run_spec m' g')
  obtain ⟨h0, h1, h2, h3, hr⟩ := h c
  exact ⟨h0.trans (congrArg Cert.KernelIdeal.All.resDx (e c)), h1.trans (congrArg Cert.KernelIdeal.All.resDA (e c)),
    h2.trans (congrArg Cert.KernelIdeal.All.resDB (e c)), h3.trans (congrArg Cert.KernelIdeal.All.resDm (e c)), hr⟩

end Cert.Algebraic

end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Frames.kernel, Cert.Frames.kernelIdeal, Cert.Frames.referenceIdeal, trivial, Cert.Algebraic.algebraic⟩

end Cert.Proof

end
